-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x5120 : Shape := ⟨3, ![256, 1, 5120]⟩
abbrev S31232x2560 : Shape := ⟨2, ![31232, 2560]⟩
abbrev S31232x320 : Shape := ⟨2, ![31232, 320]⟩
abbrev S_ : Shape := ⟨0, ![]⟩
abbrev S256x20x128x2 : Shape := ⟨4, ![256, 20, 128, 2]⟩
abbrev S256x20x2x128 : Shape := ⟨4, ![256, 20, 2, 128]⟩
abbrev S256x5120 : Shape := ⟨2, ![256, 5120]⟩
abbrev S1x1 : Shape := ⟨2, ![1, 1]⟩
abbrev S256x31232 : Shape := ⟨2, ![256, 31232]⟩
abbrev S512x2560 : Shape := ⟨2, ![512, 2560]⟩
abbrev S512x320 : Shape := ⟨2, ![512, 320]⟩
abbrev S256x512 : Shape := ⟨2, ![256, 512]⟩
abbrev S512x384 : Shape := ⟨2, ![512, 384]⟩
abbrev S512x128 : Shape := ⟨2, ![512, 128]⟩
abbrev S128x128 : Shape := ⟨2, ![128, 128]⟩
abbrev S512x128x1 : Shape := ⟨3, ![512, 128, 1]⟩
abbrev S512x256 : Shape := ⟨2, ![512, 256]⟩
abbrev S256x256 : Shape := ⟨2, ![256, 256]⟩

abbrev nBuf : Space → Nat
  | .hbm => 9
  | .vmem => 8
  | .smem => 1
  | _ => 0

abbrev bufTy : (tb : Table) → Fin (tcTables nBuf tb) → BufTy
  | .hbm, ⟨0, _⟩ => ⟨S256x1x5120, .bf16⟩
  | .hbm, ⟨1, _⟩ => ⟨S31232x2560, .i8⟩
  | .hbm, ⟨2, _⟩ => ⟨S31232x320, .fp8e4m3⟩
  | .hbm, ⟨3, _⟩ => ⟨S_, .f32⟩
  | .hbm, ⟨4, _⟩ => ⟨S256x20x128x2, .bf16⟩
  | .hbm, ⟨5, _⟩ => ⟨S256x20x2x128, .bf16⟩
  | .hbm, ⟨6, _⟩ => ⟨S256x5120, .bf16⟩
  | .hbm, ⟨7, _⟩ => ⟨S1x1, .f32⟩
  | .hbm, ⟨8, _⟩ => ⟨S256x31232, .bf16⟩
  | .local _ .vmem, ⟨0, _⟩ => ⟨S256x5120, .bf16⟩
  | .local _ .vmem, ⟨1, _⟩ => ⟨S512x2560, .i8⟩
  | .local _ .vmem, ⟨2, _⟩ => ⟨S512x2560, .i8⟩
  | .local _ .vmem, ⟨3, _⟩ => ⟨S512x320, .fp8e4m3⟩
  | .local _ .vmem, ⟨4, _⟩ => ⟨S512x320, .fp8e4m3⟩
  | .local _ .vmem, ⟨5, _⟩ => ⟨S256x512, .bf16⟩
  | .local _ .vmem, ⟨6, _⟩ => ⟨S256x512, .bf16⟩
  | .local _ .vmem, ⟨7, _⟩ => ⟨S512x384, .bf16⟩
  | .local _ .smem, ⟨0, _⟩ => ⟨S1x1, .f32⟩
  | _, _ => ⟨S256x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_stg3_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![61], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2560 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x320 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S256x1x5120 : Shape := ⟨3, ![256, 1, 5120]⟩
abbrev S31232x2560 : Shape := ⟨2, ![31232, 2560]⟩
abbrev S31232x320 : Shape := ⟨2, ![31232, 320]⟩
abbrev S_ : Shape := ⟨0, ![]⟩
abbrev S256x5120 : Shape := ⟨2, ![256, 5120]⟩
abbrev S256x2560 : Shape := ⟨2, ![256, 2560]⟩
abbrev S1x1 : Shape := ⟨2, ![1, 1]⟩
abbrev S256x31232 : Shape := ⟨2, ![256, 31232]⟩
abbrev S31232x320x8 : Shape := ⟨3, ![31232, 320, 8]⟩
abbrev S31232x320x1 : Shape := ⟨3, ![31232, 320, 1]⟩

abbrev nBuf : Space → Nat
  | .hbm => 9
  | .vmem => 6
  | .smem => 0
  | _ => 0

abbrev bufTy : (tb : Table) → Fin (tcTables nBuf tb) → BufTy
  | .hbm, ⟨0, _⟩ => ⟨S256x1x5120, .bf16⟩
  | .hbm, ⟨1, _⟩ => ⟨S31232x2560, .i8⟩
  | .hbm, ⟨2, _⟩ => ⟨S31232x320, .fp8e4m3⟩
  | .hbm, ⟨3, _⟩ => ⟨S_, .f32⟩
  | .hbm, ⟨4, _⟩ => ⟨S256x5120, .bf16⟩
  | .hbm, ⟨5, _⟩ => ⟨S256x2560, .bf16⟩
  | .hbm, ⟨6, _⟩ => ⟨S256x2560, .bf16⟩
  | .hbm, ⟨7, _⟩ => ⟨S1x1, .f32⟩
  | .hbm, ⟨8, _⟩ => ⟨S256x31232, .bf16⟩
  | .local _ .vmem, ⟨0, _⟩ => ⟨S256x2560, .bf16⟩
  | .local _ .vmem, ⟨1, _⟩ => ⟨S256x2560, .bf16⟩
  | .local _ .vmem, ⟨2, _⟩ => ⟨S31232x2560, .i8⟩
  | .local _ .vmem, ⟨3, _⟩ => ⟨S31232x320, .fp8e4m3⟩
  | .local _ .vmem, ⟨4, _⟩ => ⟨S1x1, .f32⟩
  | .local _ .vmem, ⟨5, _⟩ => ⟨S256x31232, .bf16⟩
  | _, _ => ⟨S256x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S31232x2560 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S31232x320 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x31232 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelRun.lean ====
/-
One run of the kernel's body, at any float type: whole buffers in, whole buffers out. It names
nothing of what the body stores (the frame claim of the kernel as printed needs none of it).
-/
module

public import proofs.«01_k».proof.Proof.Gen.Kernel.Frame
public import proofs.«01_k».proof.Proof.Gen.Kernel.Skeleton

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the output's (4) at anything, handed back at some contents nothing names —
    the body runs to the continuation holding the inputs' as they were, the scratch at some contents: the printed functions are their skeletons (`Gen.*_eq_skeleton`),
    which `sl_exec` runs (Lib/Exec.lean). -/
theorem kernelRun (c : Dev nD) (i : grid0.Coords) (arg1 : Memref sig .tc .vmem S256x5120 .bf16) (harg1 : arg1.IsWhole) (arg2 : Memref sig .tc .vmem S512x2560 .i8) (harg2 : arg2.IsWhole) (arg3 : Memref sig .tc .vmem S512x320 .fp8e4m3) (harg3 : arg3.IsWhole) (arg4 : Memref sig .tc .smem S1x1 .f32) (harg4 : arg4.IsWhole) (arg5 : Memref sig .tc .vmem S256x512 .bf16) (harg5 : arg5.IsWhole) (arg6 : Memref sig .tc .vmem S512x384 .bf16) (harg6 : arg6.IsWhole)
    (x0 : Vec F S256x5120 .bf16) (x1 : Vec F S512x2560 .i8) (x2 : Vec F S512x320 .fp8e4m3) (x3 : Vec F S1x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)) -∗ K ⟨⟩))
          ⊢ wp frame (wpE (defs₀ (F := F)) Variants.none c none) E (cc0_nvfp4_linear i arg1 harg1 arg2 harg2 arg3 harg3 arg4 harg4 arg5 harg5 arg6 harg6) K := by
    intro E K
    simp only [cc0_nvfp4_linear_eq_skeleton]; unfold cc0_nvfp4_linear_skel
    simp only [k0_part31_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    iexists _, _; isplitr; swap; · iexact HS0
    ipureintro; rfl

end Cert.Kernel.Gen

end
-- ==== Proof.KernelFrame.lean ====
/-
The frame claim of the kernel as printed: it runs, faults nowhere, leaves its arguments as they were and every
semaphore at zero. The output window's contents are forgotten: no claim about this program reads them.
-/
module

public import proofs.«01_k».proof.Proof.KernelRun
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .vmem S256x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2560 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x320 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S512x384 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c)⟩) h

/-! ## The pipeline's proof data -/

/-- The output windows this certificate FORGETS (4): nothing reads what the kernel leaves in them, so nothing
    of it is named (Lib/Pipeline/Dat.lean `Dat.toRForget`). -/
def forgets0 : Fin 5 → Bool := fun w => w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩⟩
  iapply ((kernelRun c (grid0.coords t) _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, H4, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 4) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_forget m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.Chunk.lean ====
/-
  THE KERNEL'S BODY AS A FUNCTION OF WHAT IT LOADS.  The body walks 20 chunks of 128 byte columns.  Each chunk decodes
  the low and the high 4-bit fields of its bytes (`low`, `high`), spreads the chunk's 16 block scales over the 128
  lanes by a lane gather (`spread`), multiplies the two, joins the two halves into 256 columns and multiplies the
  matching 256 columns of the activations with them (`part`); the products are added up (`acc`) and the sum is
  multiplied by the global scale (`total`).  Definitions only; `Spread` and `Decode` say what the pieces are.
-/
module

public import proofs.«01_k».proof.Proof.Gen.KernelIdeal
public import Idealize.ShloMosaic.Lib.Pipeline.FrameBody

@[expose] public section

set_option maxRecDepth 16384

noncomputable section

namespace Cert.Nib

open Idealize.ShloMosaic Cert.KernelIdeal Cert.KernelIdeal.Gen

variable {F : FTy → Type} [FloatOps F]

/-- The low 4-bit fields of four packed bytes, each moved into the bits of an e4m3 byte. -/
def lowWord (v : IVec S128x128 32) : IVec S128x128 32 :=
  andi (addi (shli (andi v (broadcast S128x128 252645135#32)) (broadcast S128x128 2#32)) (broadcast S128x128 1616928864#32))
    (broadcast S128x128 2627509404#32)

/-- The high 4-bit fields, the same way. -/
def highWord (v : IVec S128x128 32) : IVec S128x128 32 :=
  andi (addi (andi (shrui v (broadcast S128x128 2#32)) (broadcast S128x128 1010580540#32)) (broadcast S128x128 1616928864#32))
    (broadcast S128x128 2627509404#32)

/-- Packed words read as the e4m3 numbers of their bytes. -/
def floats (v : IVec S128x128 32) : FVec F S512x128 .bf16 :=
  extf .bf16 (bitcastToFloat .fp8e4m3 (bitcast S512x128 8 v bitcasts_S128x128_w32_S512x128_w8)) bitsLt_fp8e4m3_bf16

/-- The low codes of a chunk of bytes. -/
def low (w : Vec F S512x128 .i8) : FVec F S512x128 .bf16 :=
  floats (lowWord (bitcast S128x128 32 w bitcasts_S512x128_w8_S128x128_w32))

/-- The high codes of a chunk of bytes. -/
def high (w : Vec F S512x128 .i8) : FVec F S512x128 .bf16 :=
  floats (highWord (bitcast S128x128 32 w bitcasts_S512x128_w8_S128x128_w32))

/-- The lane number. -/
def lane : IVec S512x128 32 := iota .tc S512x128 32 [1] iota_S512x128_d1_w32

/-- The lane number divided by 8, rounded down, as the body computes it. -/
def lane8 : IVec S512x128 32 :=
  select
    (andi
      (cmpi .ne
        (subi (extui 32 (cmpi .sgt lane (broadcast S512x128 0#32)) natLt_1_32)
          (extui 32 (cmpi .slt lane (broadcast S512x128 0#32)) natLt_1_32))
        (broadcast S512x128 (Scalar.subi (Scalar.extui (Scalar.cmpi .sgt 8#32 0#32)) (Scalar.extui (Scalar.cmpi .slt 8#32 0#32)))))
      (cmpi .ne (remsi lane (broadcast S512x128 8#32)) (broadcast S512x128 0#32)))
    (subi (divsi lane (broadcast S512x128 8#32)) (broadcast S512x128 1#32))
    (divsi lane (broadcast S512x128 8#32))

/-- The lane a chunk's scale is gathered from: the lane divided by 8, plus the chunk's offset in its register of scales. -/
def gatherIdx (sub : BitVec 32) : IVec S512x128 32 :=
  shapeCast S512x128
    (shapeCast S512x128x1
      (select (cmpi .slt (addi lane8 (broadcast S512x128 sub)) (broadcast S512x128 0#32))
        (addi (addi lane8 (broadcast S512x128 sub)) (broadcast S512x128 128#32))
        (addi lane8 (broadcast S512x128 sub)))
      shapeCasts_S512x128_S512x128x1)
    shapeCasts_S512x128x1_S512x128

/-- A register of scales spread over the chunk's lanes. -/
def spread (s : Vec F S512x128 .bf16) (sub : BitVec 32) : FVec F S512x128 .bf16 :=
  truncf .bf16 (dynamicGather 1 (extf .f32 s bitsLt_bf16_f32) (gatherIdx sub)) bitsLt_bf16_f32

/-- One chunk's product: its 256 activation columns with its 256 decoded and scaled weight columns. -/
def part (x : Vec F S256x256 .bf16) (w : Vec F S512x128 .i8) (s : FVec F S512x128 .bf16) : FVec F S256x512 .f32 :=
  matmul dot_S256x256_S512x256_S256x512_1_1_0_0_n_n none (shapeCast S256x256 x shapeCasts_S256x256_S256x256)
    (concatenate S512x256 1 [⟨S512x128, mulf (low w) s⟩, ⟨S512x128, mulf (high w) s⟩] concatenates_S512x128_S512x128_S512x256_d1)
    (constant S256x512 .f32 0x00000000#32)

/-- Chunk `c`'s activation columns. -/
def rX (c : Fin 20) : Rect S256x5120 :=
  Rect.unit ![0, 256 * c.val] S256x256.size
    (by intro a; fin_cases a <;> simp only [S256x256, S256x5120] <;> have := c.isLt <;> simp <;> omega)
/-- Chunk `c`'s byte columns. -/
def rW (c : Fin 20) : Rect S512x2560 :=
  Rect.unit ![0, 128 * c.val] S512x128.size
    (by intro a; fin_cases a <;> simp only [S512x128, S512x2560] <;> have := c.isLt <;> simp <;> omega)
/-- The scales, times 64, as the body stores them. -/
def scaled (s : Vec F S512x320 .fp8e4m3) : FVec F S512x320 .bf16 :=
  shapeCast S512x320 (mulf (extf .bf16 s bitsLt_fp8e4m3_bf16) (broadcast S512x320 (Scalar.ofBits .bf16 0x4280#16 : F .bf16)))
    shapeCasts_S512x320_S512x320

/-- The chunks' products added up, chunk 0 through chunk `n`, `sp` the spread scales by chunk. -/
def acc (x : Vec F S256x5120 .bf16) (w : Vec F S512x2560 .i8) (sp : Fin 20 → FVec F S512x128 .bf16) :
    (n : ℕ) → n < 20 → FVec F S256x512 .f32
  | 0, h => part (View.ld x (rX ⟨0, h⟩)) (View.ld w (rW ⟨0, h⟩)) (sp ⟨0, h⟩)
  | n + 1, h => addf (acc x w sp n (Nat.lt_of_succ_lt h))
      (part (View.ld x (rX ⟨n + 1, h⟩)) (View.ld w (rW ⟨n + 1, h⟩)) (sp ⟨n + 1, h⟩))

theorem acc_succ (x : Vec F S256x5120 .bf16) (w : Vec F S512x2560 .i8) (sp : Fin 20 → FVec F S512x128 .bf16) (n : ℕ) (h : n + 1 < 20) :
    acc x w sp (n + 1) h = addf (acc x w sp n (Nat.lt_of_succ_lt h))
      (part (View.ld x (rX ⟨n + 1, h⟩)) (View.ld w (rW ⟨n + 1, h⟩)) (sp ⟨n + 1, h⟩)) := rfl

/-- The block the body stores, from the blocks it loads and the spread scales. -/
def total (x : Vec F S256x5120 .bf16) (w : Vec F S512x2560 .i8) (sp : Fin 20 → FVec F S512x128 .bf16) (g : Elt F .f32) :
    FVec F S256x512 .bf16 :=
  truncf .bf16 (mulf (acc x w sp 19 (by decide)) (broadcast S256x512 g)) bitsLt_bf16_f32

/-- The spread scales by chunk, from the three registers of scales: chunks 0 to 7 gather from the first, 8 to 15 from
    the second, 16 to 19 from the third. -/
def spreadTiles (t0 t1 t2 : Vec F S512x128 .bf16) (c : Fin 20) : FVec F S512x128 .bf16 :=
  spread (match c.val / 8 with | 0 => t0 | 1 => t1 | _ => t2) (BitVec.ofNat 32 (16 * (c.val % 8)))

end Cert.Nib

end
-- ==== Proof.Spread.lean ====
/-
  THE LANE GATHER OF THE SCALES.  Lane `l` of a chunk takes the scale of lane `l / 8 + 16 q` of its register, `q` the
  chunk's place among the eight of the register (`spread_apply`).  The third register is filled in its first 64 lanes
  only, and chunks 16 to 19 read no other (`spreadTiles_congr`): what the scratch held beyond them does not matter.
-/
module

public import proofs.«01_k».proof.Proof.Chunk
public import Idealize.ShloMosaic.Lib.Pointwise
public import Idealize.ShloMosaic.Lib.ValueIdx

@[expose] public section

set_option maxRecDepth 16384

noncomputable section

namespace Cert.Nib

open Idealize.ShloMosaic Cert.KernelIdeal Cert.KernelIdeal.Gen

variable {F : FTy → Type} [FloatOps F]

/-- `lane8` at one lane, on words. -/
def lane8W (x : BitVec 32) : BitVec 32 :=
  Scalar.select
    (IntOp.andi
      (IntOp.cmpi CmpIPredicate.ne
        (IntOp.subi (BitVec.setWidth 32 (IntOp.cmpi CmpIPredicate.sgt x 0#32))
          (BitVec.setWidth 32 (IntOp.cmpi CmpIPredicate.slt x 0#32)))
        (Scalar.subi (Scalar.extui (Scalar.cmpi CmpIPredicate.sgt 8#32 0#32)) (Scalar.extui (Scalar.cmpi CmpIPredicate.slt 8#32 0#32))))
      (IntOp.cmpi CmpIPredicate.ne (IntOp.remsi ArithUnit.vector x 8#32) 0#32))
    (IntOp.subi (IntOp.divsi ArithUnit.vector x 8#32) 1#32)
    (IntOp.divsi ArithUnit.vector x 8#32)

/-- `gatherIdx` at one lane, on words. -/
def gatherW (sub x : BitVec 32) : BitVec 32 :=
  Scalar.select (IntOp.cmpi CmpIPredicate.slt (IntOp.addi (lane8W x) sub) 0#32)
    (IntOp.addi (IntOp.addi (lane8W x) sub) 128#32)
    (IntOp.addi (lane8W x) sub)

theorem gatherIdx_apply (sub : BitVec 32) (n : Fin 512) (l : Fin 128) :
    gatherIdx sub (ValueIdx.ix2 n l) = gatherW sub (BitVec.ofNat 32 l.val) := by
  unfold gatherIdx lane8 lane gatherW lane8W
  pointwise

/-- A block index is its row and its lane. -/
theorem ix2_eta {a b : ℕ} (j : (⟨2, ![a, b]⟩ : Shape).Idx) : ∃ (n : Fin a) (l : Fin b), j = ValueIdx.ix2 n l :=
  ⟨j 0, j 1, by funext k; match k with | ⟨0, _⟩ => rfl | ⟨1, _⟩ => rfl⟩

/-- Over the eight chunks of a register and the 128 lanes. -/
theorem gatherW_toNat : ∀ (q : Fin 8) (l : Fin 128),
    (gatherW (BitVec.ofNat 32 (16 * q.val)) (BitVec.ofNat 32 l.val)).toNat = l.val / 8 + 16 * q.val := by
  decide +kernel

/-- Lane `l` takes the scale of lane `l / 8 + 16 q`. -/
theorem spread_apply (s : Vec F S512x128 .bf16) (q : Fin 8) (n : Fin 512) (l : Fin 128) :
    spread s (BitVec.ofNat 32 (16 * q.val)) (ValueIdx.ix2 n l)
      = FloatOps.truncf .bf16 bitsLt_bf16_f32 (FloatOps.extf .f32 bitsLt_bf16_f32 (s (ValueIdx.ix2 n ⟨l.val / 8 + 16 * q.val, by omega⟩))) := by
  unfold spread
  show FloatOps.truncf .bf16 bitsLt_bf16_f32 (dynamicGather 1 (extf .f32 s bitsLt_bf16_f32) _ (ValueIdx.ix2 n l)) = _
  rw [dynamicGather_apply, gatherIdx_apply, gatherW_toNat]
  show FloatOps.truncf .bf16 bitsLt_bf16_f32 (FloatOps.extf .f32 bitsLt_bf16_f32 (s _)) = _
  congr 3
  funext a
  match a with
  | ⟨0, _⟩ => rfl
  | ⟨1, _⟩ => exact Fin.ext (Nat.mod_eq_of_lt (by show l.val / 8 + 16 * q.val < 128; omega))

/-- The spread scales read lanes 0 to 127 of the first two registers and lanes 0 to 63 of the third. -/
theorem spreadTiles_congr {a0 a1 a2 b0 b1 b2 : Vec F S512x128 .bf16} (h0 : a0 = b0) (h1 : a1 = b1)
    (h2 : ∀ (n : Fin 512) (l : Fin 128), l.val < 64 → a2 (ValueIdx.ix2 n l) = b2 (ValueIdx.ix2 n l)) :
    spreadTiles a0 a1 a2 = spreadTiles b0 b1 b2 := by
  subst h0 h1
  funext c j
  obtain ⟨n, l, rfl⟩ := ix2_eta j
  have e : 16 * (c.val % 8) = 16 * (⟨c.val % 8, by omega⟩ : Fin 8).val := rfl
  unfold spreadTiles
  rw [e, spread_apply, spread_apply]
  have hc := c.isLt
  obtain h | h | h : c.val / 8 = 0 ∨ c.val / 8 = 1 ∨ c.val / 8 = 2 := by omega
  · rw [h]; rfl
  · rw [h]; rfl
  · rw [h]
    show FloatOps.truncf .bf16 bitsLt_bf16_f32 (FloatOps.extf .f32 bitsLt_bf16_f32 (a2 _))
      = FloatOps.truncf .bf16 bitsLt_bf16_f32 (FloatOps.extf .f32 bitsLt_bf16_f32 (b2 _))
    rw [h2 n _ (by show l.val / 8 + 16 * (c.val % 8) < 64; omega)]

/-- Register `t` of the scales times 64: lanes `128 t` to `128 t + 127`, past the last scale the first. -/
def tile (s : Vec F S512x320 .fp8e4m3) (t : ℕ) : Vec F S512x128 .bf16 := fun j =>
  scaled s (ValueIdx.ix2 (n0 := 512) (n1 := 320) (j 0) (if h : 128 * t + (j 1).val < 320 then ⟨128 * t + (j 1).val, h⟩ else 0))

/-- Chunk `c`'s spread scales, as a function of the scales. -/
def spreadAll (s : Vec F S512x320 .fp8e4m3) : Fin 20 → FVec F S512x128 .bf16 :=
  spreadTiles (tile s 0) (tile s 1) (tile s 2)

/-- A load of register `t` from a scratch the scaled scales were stored to reads them, on the lanes the store covers,
    whatever the scratch held before. -/
theorem readAt_stored (m : Memref sig .tc .vmem S512x384 .bf16) (f : m.view.ty.Contents (Elt F)) (s : Vec F S512x320 .fp8e4m3)
    (t : ℕ) (inb : ∀ a, (![0, 128 * t] : Fin 2 → ℕ) a + S512x128.size a ≤ S512x384.size a) (n : Fin 512) (l : Fin 128)
    (h : 128 * t + l.val < 320) :
    View.readAt (Elt F) m.view (Rect.unit (s := S512x384) ![0, 128 * t] S512x128.size inb).toLoadRect
        (m.view.writes (Elt F) f [⟨Rect.unit ![0, 0] S512x320.size inb_S512x384_S512x320_0_0, scaled s⟩]) (ValueIdx.ix2 n l)
      = tile s t (ValueIdx.ix2 n l) := by
  have e : (Rect.unit (s := S512x384) ![0, 128 * t] S512x128.size inb).toLoadRect.idx (ValueIdx.ix2 n l)
      = (Rect.unit (s := S512x384) ![0, 0] S512x320.size inb_S512x384_S512x320_0_0).emb
          (ValueIdx.ix2 (n0 := 512) (n1 := 320) n ⟨128 * t + l.val, h⟩) := by
    funext a
    match a with
    | ⟨0, _⟩ => exact Fin.ext (by show 0 + 1 * n.val = 0 + 1 * n.val; rfl)
    | ⟨1, _⟩ => exact Fin.ext (by show 128 * t + 1 * l.val = 0 + 1 * (128 * t + l.val); omega)
  rw [View.readAt_apply, e, View.read_writes_cons_emb]
  unfold tile
  rw [dif_pos (show 128 * t + ((ValueIdx.ix2 n l : S512x128.Idx) 1).val < 320 from h)]

end Cert.Nib

end
-- ==== Proof.Body.lean ====
/-
  ONE RUN OF THE IDEALIZED KERNEL'S BODY.  Whole buffers in, whole buffers out: the block it stores is
  `Cert.Nib.total` of the activations, the bytes, the spread scales and the global scale.  The run keeps a running sum
  after each of the 20 chunks; each is `Cert.Nib.acc` of the chunks so far, and the scratch reads are
  `Cert.Nib.spreadAll` of the scales.
-/
module

public import proofs.«01_k».proof.Proof.Gen.KernelIdeal.Frame
public import proofs.«01_k».proof.Proof.Gen.KernelIdeal.Skeleton
public import proofs.«01_k».proof.Proof.Spread
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run once: the inputs stay as they are, the output buffer ends holding the block's value. -/
theorem kernelRun (c : Dev nD) (i : grid0.Coords) (arg1 : Memref sig .tc .vmem S256x5120 .bf16) (harg1 : arg1.IsWhole) (arg2 : Memref sig .tc .vmem S512x2560 .i8) (harg2 : arg2.IsWhole) (arg3 : Memref sig .tc .vmem S512x320 .fp8e4m3) (harg3 : arg3.IsWhole) (arg4 : Memref sig .tc .smem S1x1 .f32) (harg4 : arg4.IsWhole) (arg5 : Memref sig .tc .vmem S256x512 .bf16) (harg5 : arg5.IsWhole) (arg6 : Memref sig .tc .vmem S512x384 .bf16) (harg6 : arg6.IsWhole)
    (x0 : Vec F S256x5120 .bf16) (x1 : Vec F S512x2560 .i8) (x2 : Vec F S512x320 .fp8e4m3) (x3 : Vec F S1x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (Cert.Nib.total x0 x1 (Cert.Nib.spreadAll x2) (x3 (ValueIdx.ix2 0 0))) ∗ (∃ d, owns (c : Thread nD τ) arg6 fullShare d)) -∗ K ⟨⟩))
          ⊢ wp frame (wpE (defs₀ (F := F)) Variants.none c none) E (cc0_nvfp4_linear i arg1 harg1 arg2 harg2 arg3 harg3 arg4 harg4 arg5 harg5 arg6 harg6) K := by
    intro E K
    simp only [cc0_nvfp4_linear_eq_skeleton]; unfold cc0_nvfp4_linear_skel
    simp only [k0_part31_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine (View.read_writes_eq_canon arg5.view f4 [_] (View.cover_of_tiledL _ S256x512.size rfl)).trans ?_
      refine (View.canon_unit_zero (S := S256x512) (by decide) _ _).trans ?_
      obtain ⟨A, hA⟩ : ∃ A, A = View.read (Elt F) arg1.view (harg1.unread x0) := ⟨_, rfl⟩
      obtain ⟨W, hW⟩ : ∃ W, W = View.read (Elt F) arg2.view (harg2.unread x1) := ⟨_, rfl⟩
      obtain ⟨sp, hsp⟩ : ∃ sp, sp = Cert.Nib.spreadTiles (kernelRun.sl.v30 c arg3 harg3 arg6 x2) (kernelRun.sl.v557 c arg3 harg3 arg6 x2)
        (View.readAt (Elt F) arg6.view (Rect.unit (s := S512x384) ![0, 256] S512x128.size inb_S512x384_S512x128_0_256).toLoadRect
          (arg6.view.writes (Elt F) fs0 (kernelRun.sl.HS0_1 c arg3 harg3 x2))) := ⟨_, rfl⟩
      have h0 : kernelRun.sl.r_3 c arg1 harg1 arg2 harg2 arg3 harg3 arg6 x0 x1 x2 = Cert.Nib.acc A W sp 0 (by decide) := by
        rw [hA, hW, hsp]; rfl
      have h1 : kernelRun.sl.r_9 c arg1 harg1 arg2 harg2 arg3 harg3 arg6 x0 x1 x2 = Cert.Nib.acc A W sp 1 (by decide) := by
        refine Eq.trans ?_ (Cert.Nib.acc_succ A W sp 0 (by decide)).symm
        rw [← h0, hA, hW, hsp]; rfl
      have h2 : kernelRun.sl.r_13 c arg1 harg1 arg2 harg2 arg3 harg3 arg6 x0 x1 x2 = Cert.Nib.acc A W sp 2 (by decide) := by
        refine Eq.trans ?_ (Cert.Nib.acc_succ A W sp 1 (by decide)).symm
        rw [← h1, hA, hW, hsp]; rfl
      have h3 : kernelRun.sl.r_19 c arg1 harg1 arg2 harg2 arg3 harg3 arg6 x0 x1 x2 = Cert.Nib.acc A W sp 3 (by decide) := by
        refine Eq.trans ?_ (Cert.Nib.acc_succ A W sp 2 (by decide)).symm
        rw [← h2, hA, hW, hsp]; rfl
      have h4 : kernelRun.sl.r_23 c arg1 harg1 arg2 harg2 arg3 harg3 arg6 x0 x1 x2 = Cert.Nib.acc A W sp 4 (by decide) := by
        refine Eq.trans ?_ (Cert.Nib.acc_succ A W sp 3 (by decide)).symm
        rw [← h3, hA, hW, hsp]; rfl
      have h5 : kernelRun.sl.r_29 c arg1 harg1 arg2 harg2 arg3 harg3 arg6 x0 x1 x2 = Cert.Nib.acc A W sp 5 (by decide) := by
        refine Eq.trans ?_ (Cert.Nib.acc_succ A W sp 4 (by decide)).symm
        rw [← h4, hA, hW, hsp]; rfl
      have h6 : kernelRun.sl.r_33 c arg1 harg1 arg2 harg2 arg3 harg3 arg6 x0 x1 x2 = Cert.Nib.acc A W sp 6 (by decide) := by
        refine Eq.trans ?_ (Cert.Nib.acc_succ A W sp 5 (by decide)).symm
        rw [← h5, hA, hW, hsp]; rfl
      have h7 : kernelRun.sl.r_39 c arg1 harg1 arg2 harg2 arg3 harg3 arg6 x0 x1 x2 = Cert.Nib.acc A W sp 7 (by decide) := by
        refine Eq.trans ?_ (Cert.Nib.acc_succ A W sp 6 (by decide)).symm
        rw [← h6, hA, hW, hsp]; rfl
      have h8 : kernelRun.sl.r_43 c arg1 harg1 arg2 harg2 arg3 harg3 arg6 x0 x1 x2 = Cert.Nib.acc A W sp 8 (by decide) := by
        refine Eq.trans ?_ (Cert.Nib.acc_succ A W sp 7 (by decide)).symm
        rw [← h7, hA, hW, hsp]; rfl
      have h9 : kernelRun.sl.r_49 c arg1 harg1 arg2 harg2 arg3 harg3 arg6 x0 x1 x2 = Cert.Nib.acc A W sp 9 (by decide) := by
        refine Eq.trans ?_ (Cert.Nib.acc_succ A W sp 8 (by decide)).symm
        rw [← h8, hA, hW, hsp]; rfl
      have h10 : kernelRun.sl.r_53 c arg1 harg1 arg2 harg2 arg3 harg3 arg6 x0 x1 x2 = Cert.Nib.acc A W sp 10 (by decide) := by
        refine Eq.trans ?_ (Cert.Nib.acc_succ A W sp 9 (by decide)).symm
        rw [← h9, hA, hW, hsp]; rfl
      have h11 : kernelRun.sl.r_58 c arg1 harg1 arg2 harg2 arg3 harg3 arg6 x0 x1 x2 = Cert.Nib.acc A W sp 11 (by decide) := by
        refine Eq.trans ?_ (Cert.Nib.acc_succ A W sp 10 (by decide)).symm
        rw [← h10, hA, hW, hsp]; rfl
      have h12 : kernelRun.sl.r_61 c arg1 harg1 arg2 harg2 arg3 harg3 arg6 x0 x1 x2 = Cert.Nib.acc A W sp 12 (by decide) := by
        refine Eq.trans ?_ (Cert.Nib.acc_succ A W sp 11 (by decide)).symm
        rw [← h11, hA, hW, hsp]; rfl
      have h13 : kernelRun.sl.r_66 c arg1 harg1 arg2 harg2 arg3 harg3 arg6 x0 x1 x2 = Cert.Nib.acc A W sp 13 (by decide) := by
        refine Eq.trans ?_ (Cert.Nib.acc_succ A W sp 12 (by decide)).symm
        rw [← h12, hA, hW, hsp]; rfl
      have h14 : kernelRun.sl.r_69 c arg1 harg1 arg2 harg2 arg3 harg3 arg6 x0 x1 x2 = Cert.Nib.acc A W sp 14 (by decide) := by
        refine Eq.trans ?_ (Cert.Nib.acc_succ A W sp 13 (by decide)).symm
        rw [← h13, hA, hW, hsp]; rfl
      have h15 : kernelRun.sl.r_73 c arg1 harg1 arg2 harg2 arg3 harg3 arg6 x0 x1 x2 = Cert.Nib.acc A W sp 15 (by decide) := by
        refine Eq.trans ?_ (Cert.Nib.acc_succ A W sp 14 (by decide)).symm
        rw [← h14, hA, hW, hsp]; rfl
      have h16 : kernelRun.sl.r_77 c arg1 harg1 arg2 harg2 arg3 harg3 arg6 x0 x1 x2 fs0 = Cert.Nib.acc A W sp 16 (by decide) := by
        refine Eq.trans ?_ (Cert.Nib.acc_succ A W sp 15 (by decide)).symm
        rw [← h15, hA, hW, hsp]; rfl
      have h17 : kernelRun.sl.r_81 c arg1 harg1 arg2 harg2 arg3 harg3 arg6 x0 x1 x2 fs0 = Cert.Nib.acc A W sp 17 (by decide) := by
        refine Eq.trans ?_ (Cert.Nib.acc_succ A W sp 16 (by decide)).symm
        rw [← h16, hA, hW, hsp]; rfl
      have h18 : kernelRun.sl.r_86 c arg1 harg1 arg2 harg2 arg3 harg3 arg6 x0 x1 x2 fs0 = Cert.Nib.acc A W sp 18 (by decide) := by
        refine Eq.trans ?_ (Cert.Nib.acc_succ A W sp 17 (by decide)).symm
        rw [← h17, hA, hW, hsp]; rfl
      have h19 : k0_pay1 (kernelRun.sl.r_86 c arg1 harg1 arg2 harg2 arg3 harg3 arg6 x0 x1 x2 fs0)
          (kernelRun.sl.r_90 c arg2 harg2 arg3 harg3 arg6 x1 x2 fs0) (kernelRun.sl.r_91 c arg1 harg1 x0)
          (kernelRun.sl.r_92 c arg4 harg4 x3) = Cert.Nib.total A W sp (kernelRun.sl.r_92 c arg4 harg4 x3) := by
        unfold Cert.Nib.total
        rw [Cert.Nib.acc_succ A W sp 18 (by decide), ← h18, hA, hW, hsp]; rfl
      rw [h19, hA, hW, hsp, harg1.read_unread, harg2.read_unread]
      refine congrArg₂ (Cert.Nib.total x0 x1) (Cert.Nib.spreadTiles_congr ?_ ?_ ?_) ?_
      · funext j
        obtain ⟨n, l, rfl⟩ := Cert.Nib.ix2_eta j
        refine (Cert.Nib.readAt_stored arg6 arg6.view.junk (View.ld (View.read (Elt F) arg3.view (harg3.unread x2)) (Rect.unit (s := S512x320) ![0, 0] S512x320.size inb_S512x320_S512x320_0_0)) 0 inb_S512x384_S512x128_0_0 n l (by omega)).trans ?_
        rw [harg3.read_unread, View.ld_unit_zero (S := S512x320) (by decide)]
      · funext j
        obtain ⟨n, l, rfl⟩ := Cert.Nib.ix2_eta j
        refine (Cert.Nib.readAt_stored arg6 arg6.view.junk (View.ld (View.read (Elt F) arg3.view (harg3.unread x2)) (Rect.unit (s := S512x320) ![0, 0] S512x320.size inb_S512x320_S512x320_0_0)) 1 inb_S512x384_S512x128_0_128 n l (by omega)).trans ?_
        rw [harg3.read_unread, View.ld_unit_zero (S := S512x320) (by decide)]
      · intro n l hl
        refine (Cert.Nib.readAt_stored arg6 fs0 (View.ld (View.read (Elt F) arg3.view (harg3.unread x2)) (Rect.unit (s := S512x320) ![0, 0] S512x320.size inb_S512x320_S512x320_0_0)) 2 inb_S512x384_S512x128_0_256 n l (by omega)).trans ?_
        rw [harg3.read_unread, View.ld_unit_zero (S := S512x320) (by decide)]
      · have e : kernelRun.sl.r_92 c arg4 harg4 x3 = View.read (Elt F) arg4.view (harg4.unread x3) (((Rect.unit (s := S1x1) ![0, 0] ![1, 1] inb_S1x1_S1x1_0_0).toLoadRect).idx (Shape.Idx.first (by decide))) := rfl
        rw [e, harg4.read_unread]
        exact congrArg x3 (funext fun a => by fin_cases a <;> exact Subsingleton.elim (α := Fin 1) _ _)
    iexists _, _; isplitr; swap; · iexact HS0
    ipureintro; rfl

end Cert.KernelIdeal.Gen

end
-- ==== Proof.Data.lean ====
/-
The idealized kernel's run: what the pipeline's buffers hold around the body at a grid point, the body obligation
(from the body's run in Body.lean), the run of @main and the frame claim.
-/
module

public import proofs.«01_k».proof.Proof.Body
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .vmem S256x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2560 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x320 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S512x384 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The pipeline's proof data -/

/-- What the body leaves in the output window's buffer at point `t`, from the four input blocks there. -/
def blockOut (c : Dev nD) (t : Fin cfg0.N) : Vec F S256x512 .bf16 :=
  Cert.Nib.total (iblk m c 0 t) (iblk m c 1 t) (Cert.Nib.spreadAll (iblk m c 2 t)) (iblk m c 3 t (ValueIdx.ix2 0 0))

/-- The proof data of the one pipeline on core `c`: the arrays as the region finds them (`V`); after the body at
    point `t` each input's buffer at its block and the output's at `Nib.total` of the input blocks; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockOut m c t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = blockOut m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩⟩
  iapply ((kernelRun c (grid0.coords t) _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, H4, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.Blocks.lean ====
/-
What the idealized kernel's run leaves in its result: block by block, the body's value at the grid point.
-/
module

public import proofs.«01_k».proof.Proof.Data
public import Idealize.ShloMosaic.Lib.Pipeline.Value

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Pipeline (Dat Cfg Window BodyObligation cellOf)

variable {F : FTy → Type} [FloatOps F]

variable (m : (ℓ : Loc nD τ sig) → Buf (Elt F) ℓ) (ρ : Dev nD → PrngReg)

/-- WHAT POINT `t` WRITES BACK to output window 4's array: the body's result for that window (`Gen.blockOut`), read through the window's block. -/
theorem flushed4 (c : Dev nD) (t : Fin cfg0.N) :
    (dats m 0 c).flushed 4 t = (cfg0.win 4).cut (grid0.coords t) (blockOut m c t) := by
  show (cfg0.win 4).cut (grid0.coords t) ((dats m 0 c).after 4 t) = _
  rw [after0_4]

/-- The index map sends distinct grid points to distinct block indices (decided over the 61 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S256x31232.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v4) = (dats m 0 c).arrAt 4 cfg0.N :=
  (h c).1 4

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v4) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      kept_main_arg0 m r h c,
      kept_main_arg1 m r h c,
      kept_main_arg2 m r h c,
      kept_main_arg3 m r h c⟩)
    (run_main m ρ)

end Cert.KernelIdeal.Value

end
-- ==== Proof.Decode.lean ====
/-
  DECODING A BYTE.  A packed byte holds two 4-bit codes.  The body moves four bytes at a time: it puts each byte's low
  (or high) code into bits 2 to 5 of the byte, adds `0x60`, which carries the code's sign bit up to bit 7, and masks with
  `0x9C`.  No byte carries into the next (`lowW_field`, `highW_field`), so row `n` of the result is a function of row `n`
  of the bytes alone (`low_byte`, `high_byte`), and the e4m3 number with these bits is the code's value over 64.
-/
module

public import proofs.«01_k».proof.Proof.Spread
public import Idealize.ShloMosaic.Lib.BitcastFour
public import Idealize.ShloMosaic.Lib.PackedFields
public import Idealize.ShloMosaic.PureOps.Ideal.Laws

@[expose] public section

set_option maxRecDepth 16384

noncomputable section

namespace Cert.Nib

open Idealize.ShloMosaic Idealize.ShloMosaic.PackedFields Cert.KernelIdeal Cert.KernelIdeal.Gen

/-! ## Bytes of a word -/

/-- Row `n` of a word array read as bytes is byte `n % 4` of word row `n / 4`. -/
theorem bytes_toNat (v : IVec S128x128 32) (n : Fin 512) (l : Fin 128) :
    (bitcast S512x128 8 v bitcasts_S128x128_w32_S512x128_w8 (ValueIdx.ix2 n l)).toNat
      = field 8 (n.val % 4) (v (ValueIdx.ix2 (n0 := 128) (n1 := 128) ⟨n.val / 4, by omega⟩ l)).toNat := by
  apply Nat.eq_of_testBit_eq; intro j
  rw [testBit_field]
  by_cases hj : j < 8
  · rw [BitVec.testBit_toNat, BitVec.testBit_toNat, decide_eq_true hj, Bool.true_and,
      bitcast_getLsbD v bitcasts_S128x128_w32_S512x128_w8 _ j hj (by decide)]
    have er : S512x128.row (ValueIdx.ix2 n l) = n.val := rfl
    have em : (S512x128.row (ValueIdx.ix2 n l) * 8 + j) % 32 = 8 * (n.val % 4) + j := by rw [er]; omega
    rw [em]
    congr 2
    funext a
    match a with
    | ⟨0, _⟩ => exact Fin.ext ((Shape.Bitcasts.srcIdx_row _ _ _ _ ⟨0, Nat.zero_lt_two⟩ rfl).trans (by rw [er]; show _ = n.val / 4; omega))
    | ⟨1, _⟩ => exact Fin.ext (Shape.Bitcasts.srcIdx_other _ _ _ _ ⟨1, Nat.one_lt_two⟩ (by show ¬ 1 + 2 = 2; omega))
  · rw [decide_eq_false hj, Bool.false_and]
    exact Nat.testBit_lt_two_pow (lt_of_lt_of_le (BitVec.isLt _) (Nat.pow_le_pow_right (by decide) (by omega)))

/-- Byte `r` of word row `a` of a byte array is row `4 a + r`. -/
theorem word_field (w : IVec S512x128 8) (a : Fin 128) (l : Fin 128) (r : ℕ) (hr : r < 4) :
    field 8 r (bitcast S128x128 32 w bitcasts_S512x128_w8_S128x128_w32 (ValueIdx.ix2 a l)).toNat
      = (w (ValueIdx.ix2 (n0 := 512) (n1 := 128) ⟨4 * a.val + r, by omega⟩ l)).toNat := by
  apply Nat.eq_of_testBit_eq; intro j
  rw [testBit_field]
  by_cases hj : j < 8
  · rw [BitVec.testBit_toNat, BitVec.testBit_toNat, decide_eq_true hj, Bool.true_and,
      bitcast_8_32_getLsbD_ix2 w bitcasts_S512x128_w8_S128x128_w32 a l (8 * r + j) (by omega) ⟨4 * a.val + r, by omega⟩
        (by show 4 * a.val + r = 4 * a.val + (8 * r + j) / 8; omega)]
    congr 1; omega
  · rw [decide_eq_false hj, Bool.false_and]
    exact (Nat.testBit_lt_two_pow (lt_of_lt_of_le (BitVec.isLt _) (Nat.pow_le_pow_right (by decide) (by omega)))).symm

theorem field_and (w i a b : ℕ) : field w i (a &&& b) = field w i a &&& field w i b := by
  apply Nat.eq_of_testBit_eq; intro j
  rw [Nat.testBit_and, testBit_field, testBit_field, testBit_field, Nat.testBit_and]
  cases decide (j < w) <;> simp

theorem field_andi (r : ℕ) (a b : BitVec 32) :
    field 8 r (IntOp.andi a b).toNat = field 8 r a.toNat &&& field 8 r b.toNat := by
  unfold IntOp.andi; rw [BitVec.toNat_and, field_and]

theorem field_lt (i a : ℕ) : field 8 i a < 256 := Nat.mod_lt _ (by decide)

/-! ## The two words -/

/-- `lowWord` at one word. -/
def lowW (v : BitVec 32) : BitVec 32 :=
  IntOp.andi (IntOp.addi (IntOp.shli .vector (IntOp.andi v 252645135#32) 2#32) 1616928864#32) 2627509404#32
/-- `highWord` at one word. -/
def highW (v : BitVec 32) : BitVec 32 :=
  IntOp.andi (IntOp.addi (IntOp.andi (IntOp.shrui .vector v 2#32) 1010580540#32) 1616928864#32) 2627509404#32

theorem mask15 : ∀ r < 4, field 8 r (252645135#32).toNat = 15 := by decide
theorem bias96 : ∀ r < 4, field 8 r (1616928864#32).toNat = 96 := by decide
theorem mask156 : ∀ r < 4, field 8 r (2627509404#32).toNat = 156 := by decide
theorem mask60 : ∀ r < 4, field 8 r (1010580540#32).toNat = 60 := by decide

theorem shl_two (x : BitVec 32) : IntOp.shli .vector x 2#32 = IntOp.addi (IntOp.addi x x) (IntOp.addi x x) := by
  unfold IntOp.shli IntOp.addi
  apply BitVec.eq_of_toNat_eq
  simp [BitVec.toNat_shiftLeft, Nat.shiftLeft_eq]
  omega

theorem and15 (a : ℕ) : a &&& 15 < 16 := lt_of_le_of_lt Nat.and_le_right (by decide)
theorem and60 (a : ℕ) : a &&& 60 < 61 := lt_of_le_of_lt Nat.and_le_right (by decide)

theorem lowW_field (v : BitVec 32) (r : ℕ) (hr : r < 4) :
    field 8 r (lowW v).toNat = (4 * (field 8 r v.toNat &&& 15) + 96) &&& 156 := by
  have h1 : ∀ k < 4, field 8 k (IntOp.andi v 252645135#32).toNat = field 8 k v.toNat &&& 15 := fun k hk => by
    rw [field_andi, mask15 k hk]
  have h2 : ∀ k < 4, field 8 k (IntOp.addi (IntOp.andi v 252645135#32) (IntOp.andi v 252645135#32)).toNat
      = (field 8 k v.toNat &&& 15) + (field 8 k v.toNat &&& 15) := fun k hk => by
    rw [field_addi (n := 4) rfl _ _ (fun i hi => by rw [h1 i hi]; have := and15 (field 8 i v.toNat); omega) k hk, h1 k hk]
  have h3 : ∀ k < 4, field 8 k (IntOp.shli .vector (IntOp.andi v 252645135#32) 2#32).toNat
      = 4 * (field 8 k v.toNat &&& 15) := fun k hk => by
    rw [shl_two, field_addi (n := 4) rfl _ _ (fun i hi => by rw [h2 i hi]; have := and15 (field 8 i v.toNat); omega) k hk, h2 k hk]
    omega
  unfold lowW
  rw [field_andi, mask156 r hr, field_addi (n := 4) rfl _ _
    (fun i hi => by rw [h3 i hi, bias96 i hi]; have := and15 (field 8 i v.toNat); omega) r hr, h3 r hr, bias96 r hr]

theorem shr_two_field (v : BitVec 32) (r : ℕ) (hr : r < 4) :
    field 8 r (IntOp.andi (IntOp.shrui .vector v 2#32) 1010580540#32).toNat = (field 8 r v.toNat / 4) &&& 60 := by
  rw [field_andi, mask60 r hr]
  apply Nat.eq_of_testBit_eq; intro j
  rw [Nat.testBit_and, Nat.testBit_and, testBit_field]
  have e : IntOp.shrui .vector v 2#32 = v >>> 2 := by
    unfold IntOp.shrui; rfl
  have d : field 8 r v.toNat / 4 = field 8 r v.toNat >>> 2 := by rw [Nat.shiftRight_eq_div_pow]
  rw [e, d, BitVec.toNat_ushiftRight, Nat.testBit_shiftRight, Nat.testBit_shiftRight, testBit_field]
  by_cases hj : j < 6
  · rw [decide_eq_true (show j < 8 by omega), decide_eq_true (show 2 + j < 8 by omega),
      show 2 + (8 * r + j) = 8 * r + (2 + j) by omega]
  · have : (60 : ℕ).testBit j = false := Nat.testBit_lt_two_pow (lt_of_lt_of_le (by decide : 60 < 2 ^ 6) (Nat.pow_le_pow_right (by decide) (by omega)))
    rw [this, Bool.and_false, Bool.and_false]

theorem highW_field (v : BitVec 32) (r : ℕ) (hr : r < 4) :
    field 8 r (highW v).toNat = (((field 8 r v.toNat / 4) &&& 60) + 96) &&& 156 := by
  unfold highW
  rw [field_andi, mask156 r hr, field_addi (n := 4) rfl _ _
    (fun i hi => by rw [shr_two_field v i hi, bias96 i hi]; have := and60 (field 8 i v.toNat / 4); omega) r hr,
    shr_two_field v r hr, bias96 r hr]

/-! ## The value of a code -/

/-- The value of a 4-bit code: sign, two exponent bits, one mantissa bit. -/
def code (k : ℕ) : ℝ :=
  (if k / 8 = 1 then -1 else 1) * (match k % 8 with | 0 => 0 | 1 => 1 / 2 | 2 => 1 | 3 => 3 / 2 | 4 => 2 | 5 => 3 | 6 => 4 | _ => 6)

/-- The e4m3 number the body makes of a code is the code's value over 64. -/
theorem e4m3_code : ∀ k : Fin 16, Ideal.ofBits .fp8e4m3 (BitVec.ofNat 8 ((4 * k.val + 96) &&& 156)) = ((code k.val / 64 : ℝ) : EReal) := by
  intro k
  fin_cases k <;> simp [Ideal.ofBits, Ideal.e4m3fn, code, -EReal.coe_mul] <;> norm_num

/-- The low code of a byte, decoded. -/
theorem low_apply (w : Vec Ideal S512x128 .i8) (n : Fin 512) (l : Fin 128) :
    low w (ValueIdx.ix2 n l) = ((code ((w (ValueIdx.ix2 n l) : BitVec 8).toNat % 16) / 64 : ℝ) : EReal) := by
  have hlt : (w (ValueIdx.ix2 n l) : BitVec 8).toNat < 256 := (w (ValueIdx.ix2 n l) : BitVec 8).isLt
  have key : ∀ b < 256, (4 * (b &&& 15) + 96) &&& 156 = ((4 * (b % 16) + 96) &&& 156) % 2 ^ 8 := by decide
  have hb : (bitcast S512x128 8 (lowWord (bitcast S128x128 32 w bitcasts_S512x128_w8_S128x128_w32)) bitcasts_S128x128_w32_S512x128_w8
      (ValueIdx.ix2 n l)) = BitVec.ofNat 8 ((4 * ((w (ValueIdx.ix2 n l) : BitVec 8).toNat % 16) + 96) &&& 156) := by
    apply BitVec.eq_of_toNat_eq
    rw [bytes_toNat, BitVec.toNat_ofNat]
    show field 8 (n.val % 4) (lowW (bitcast S128x128 32 w _ _)).toNat = _
    rw [lowW_field _ _ (by omega), word_field w _ l _ (by omega)]
    have ei : (ValueIdx.ix2 (n0 := 512) (n1 := 128) ⟨4 * (n.val / 4) + n.val % 4, by omega⟩ l) = ValueIdx.ix2 n l := by
      congr 1; exact Fin.ext (by show 4 * (n.val / 4) + n.val % 4 = n.val; omega)
    rw [ei]
    exact key _ hlt
  show Ideal.ofBits .fp8e4m3 (bitcast S512x128 8 _ _ _) = _
  rw [hb]
  exact e4m3_code ⟨_, Nat.mod_lt _ (by decide)⟩

/-- The high code of a byte, decoded. -/
theorem high_apply (w : Vec Ideal S512x128 .i8) (n : Fin 512) (l : Fin 128) :
    high w (ValueIdx.ix2 n l) = ((code ((w (ValueIdx.ix2 n l) : BitVec 8).toNat / 16) / 64 : ℝ) : EReal) := by
  have hlt : (w (ValueIdx.ix2 n l) : BitVec 8).toNat < 256 := (w (ValueIdx.ix2 n l) : BitVec 8).isLt
  have key : ∀ b < 256, (((b / 4) &&& 60) + 96) &&& 156 = (4 * (b / 16) + 96) &&& 156 := by decide
  have hb : (bitcast S512x128 8 (highWord (bitcast S128x128 32 w bitcasts_S512x128_w8_S128x128_w32)) bitcasts_S128x128_w32_S512x128_w8
      (ValueIdx.ix2 n l)) = BitVec.ofNat 8 ((4 * ((w (ValueIdx.ix2 n l) : BitVec 8).toNat / 16) + 96) &&& 156) := by
    apply BitVec.eq_of_toNat_eq
    rw [bytes_toNat, BitVec.toNat_ofNat]
    show field 8 (n.val % 4) (highW (bitcast S128x128 32 w _ _)).toNat = _
    rw [highW_field _ _ (by omega), word_field w _ l _ (by omega)]
    have ei : (ValueIdx.ix2 (n0 := 512) (n1 := 128) ⟨4 * (n.val / 4) + n.val % 4, by omega⟩ l) = ValueIdx.ix2 n l := by
      congr 1; exact Fin.ext (by show 4 * (n.val / 4) + n.val % 4 = n.val; omega)
    rw [ei, key _ hlt, Nat.mod_eq_of_lt]
    exact lt_of_le_of_lt Nat.and_le_right (by decide)
  show Ideal.ofBits .fp8e4m3 (bitcast S512x128 8 _ _ _) = _
  rw [hb]
  exact e4m3_code ⟨_, by omega⟩

/-! ## The scales -/

/-- The factor the body multiplies the scales by. -/
theorem ofBits_64 : Ideal.ofBits .bf16 0x4280#16 = ((64 : ℝ) : EReal) := by
  simp [Ideal.ofBits, Ideal.ieee, -EReal.coe_mul]; norm_num

/-- Chunk `c`'s lane `l` carries the scale of byte column `128 c + l`, times 64. -/
theorem spreadAll_apply (s : Vec Ideal S512x320 .fp8e4m3) (c : Fin 20) (n : Fin 512) (l : Fin 128) :
    spreadAll s c (ValueIdx.ix2 n l) = s (ValueIdx.ix2 (n0 := 512) (n1 := 320) n ⟨16 * c.val + l.val / 8, by omega⟩) * ((64 : ℝ) : EReal) := by
  have e : 16 * (c.val % 8) = 16 * (⟨c.val % 8, by omega⟩ : Fin 8).val := rfl
  have hs : ∀ j, scaled s j = s j * ((64 : ℝ) : EReal) := fun j => by
    unfold scaled; pointwise; exact congrArg (s j * ·) ofBits_64
  have ht : ∀ (t : ℕ) (q : Fin 128) (h : 128 * t + q.val < 320),
      tile s t (ValueIdx.ix2 n q) = s (ValueIdx.ix2 (n0 := 512) (n1 := 320) n ⟨128 * t + q.val, h⟩) * ((64 : ℝ) : EReal) := fun t q h => by
    unfold tile
    rw [hs, dif_pos (show 128 * t + ((ValueIdx.ix2 n q : S512x128.Idx) 1).val < 320 from h)]
  have hc := c.isLt
  unfold spreadAll spreadTiles
  rw [e, spread_apply]
  obtain h | h | h : c.val / 8 = 0 ∨ c.val / 8 = 1 ∨ c.val / 8 = 2 := by omega
  · rw [h]
    refine (ht 0 _ (by show 128 * 0 + (l.val / 8 + 16 * (c.val % 8)) < 320; omega)).trans ?_
    congr 3; exact Fin.ext (by show 128 * 0 + (l.val / 8 + 16 * (c.val % 8)) = 16 * c.val + l.val / 8; omega)
  · rw [h]
    refine (ht 1 _ (by show 128 * 1 + (l.val / 8 + 16 * (c.val % 8)) < 320; omega)).trans ?_
    congr 3; exact Fin.ext (by show 128 * 1 + (l.val / 8 + 16 * (c.val % 8)) = 16 * c.val + l.val / 8; omega)
  · rw [h]
    refine (ht 2 _ (by show 128 * 2 + (l.val / 8 + 16 * (c.val % 8)) < 320; omega)).trans ?_
    congr 3; exact Fin.ext (by show 128 * 2 + (l.val / 8 + 16 * (c.val % 8)) = 16 * c.val + l.val / 8; omega)

end Cert.Nib

end
-- ==== Proof.Block.lean ====
/-
  WHAT ONE BLOCK HOLDS.  At the ideal values entry (i, n) of the body's block is the sum over the 20 chunks and the 128
  byte columns of each of the even activation times the low code times the scale, plus the same of the odd activation
  and the high code, times the global scale (`total_apply`); the two factors 64 cancel (`weight_eq`).
-/
module

public import proofs.«01_k».proof.Proof.Decode
public import Idealize.ShloMosaic.Lib.Pointwise
public import Idealize.ShloMosaic.Lib.Pipeline.Value

@[expose] public section

set_option maxRecDepth 16384

noncomputable section

namespace Cert.Nib

open Idealize.ShloMosaic Cert.KernelIdeal Cert.KernelIdeal.Gen

/-- The chunk's product as a sum over its 256 columns. -/
theorem matmul_part (x : FVec Ideal S256x256 .bf16) (y : FVec Ideal S512x256 .bf16) (i : Fin 256) (n : Fin 512) :
    matmul dot_S256x256_S512x256_S256x512_1_1_0_0_n_n none x y (constant S256x512 .f32 0x00000000#32) (ValueIdx.ix2 i n)
      = ∑ k : Fin 256, x (ValueIdx.ix2 i k) * y (ValueIdx.ix2 n k) := by
  pointwise
  rfl

/-- The first 128 columns of the joined weights are the first piece's. -/
theorem cat_left (a b : FVec Ideal S512x128 .bf16) (n : Fin 512) (l : Fin 128) :
    concatenate S512x256 1 [⟨S512x128, a⟩, ⟨S512x128, b⟩] concatenates_S512x128_S512x128_S512x256_d1
      (ValueIdx.ix2 (n0 := 512) (n1 := 256) n ⟨l.val, by omega⟩) = a (ValueIdx.ix2 n l) := by
  refine concatenate_pair_apply_left (t := S512x256) (s₁ := S512x128) (s₂ := S512x128) 1 a b _ _ rfl (ValueIdx.ix2 n l) ?_
  intro c
  match c with
  | ⟨0, _⟩ => rfl
  | ⟨1, _⟩ => rfl

/-- The last 128 are the second's. -/
theorem cat_right (a b : FVec Ideal S512x128 .bf16) (n : Fin 512) (l : Fin 128) :
    concatenate S512x256 1 [⟨S512x128, a⟩, ⟨S512x128, b⟩] concatenates_S512x128_S512x128_S512x256_d1
      (ValueIdx.ix2 (n0 := 512) (n1 := 256) n ⟨128 + l.val, by omega⟩) = b (ValueIdx.ix2 n l) := by
  refine concatenate_pair_apply_right (t := S512x256) (s₁ := S512x128) (s₂ := S512x128) 1 a b _ _ rfl rfl (ValueIdx.ix2 n l) ?_ ?_
  · intro c hc
    match c with
    | ⟨0, _⟩ => rfl
    | ⟨1, _⟩ => exact absurd rfl hc
  · exact Nat.add_comm _ _

/-- A code over 64 times a scale times 64 is the code times the scale. -/
theorem weight_eq (q : ℝ) (s : EReal) : ((q / 64 : ℝ) : EReal) * (s * ((64 : ℝ) : EReal)) = (q : EReal) * s := by
  rw [mul_comm s, ← mul_assoc, ← EReal.coe_mul]
  congr 2
  ring

/-- A product of vectors at an entry. -/
theorem mulf_at {S : Shape} (a b : FVec Ideal S .bf16) (j : S.Idx) : mulf a b j = a j * b j := rfl

/-- A sum over the 256 joined columns is the sum over the first piece's plus the sum over the second's. -/
theorem sum_cat (x : FVec Ideal S256x256 .bf16) (a b : FVec Ideal S512x128 .bf16) (i : Fin 256) (n : Fin 512) :
    ∑ k : Fin 256, x (ValueIdx.ix2 i k) * concatenate S512x256 1 [⟨S512x128, a⟩, ⟨S512x128, b⟩]
        concatenates_S512x128_S512x128_S512x256_d1 (ValueIdx.ix2 n k)
      = (∑ l : Fin 128, x (ValueIdx.ix2 (n0 := 256) (n1 := 256) i ⟨l.val, by omega⟩) * a (ValueIdx.ix2 n l))
        + ∑ l : Fin 128, x (ValueIdx.ix2 (n0 := 256) (n1 := 256) i ⟨128 + l.val, by omega⟩) * b (ValueIdx.ix2 n l) := by
  refine (Fin.sum_univ_two_halves 128 128 rfl _).trans (congrArg₂ (· + ·) ?_ ?_)
  · exact Finset.sum_congr rfl fun l _ => by rw [cat_left]
  · exact Finset.sum_congr rfl fun l _ => by rw [cat_right]

/-- One chunk's product at an entry: the low half's sum plus the high half's. -/
theorem part_apply (x : Vec Ideal S256x256 .bf16) (w : Vec Ideal S512x128 .i8) (s : FVec Ideal S512x128 .bf16)
    (i : Fin 256) (n : Fin 512) :
    part x w s (ValueIdx.ix2 i n)
      = (∑ l : Fin 128, x (ValueIdx.ix2 (n0 := 256) (n1 := 256) i ⟨l.val, by omega⟩) * mulf (low w) s (ValueIdx.ix2 n l))
        + ∑ l : Fin 128, x (ValueIdx.ix2 (n0 := 256) (n1 := 256) i ⟨128 + l.val, by omega⟩) * mulf (high w) s (ValueIdx.ix2 n l) := by
  unfold part
  rw [shapeCast_self, matmul_part]
  exact sum_cat x (mulf (low w) s) (mulf (high w) s) i n

/-- The decoded weight of a low code: the code times the scale, when the spread scale is 64 times it. -/
theorem low_mul (w : Vec Ideal S512x128 .i8) (s : FVec Ideal S512x128 .bf16) (n : Fin 512) (l : Fin 128) (b : BitVec 8)
    (hb : w (ValueIdx.ix2 n l) = b) (r : EReal) (hr : s (ValueIdx.ix2 n l) = r * ((64 : ℝ) : EReal)) :
    mulf (low w) s (ValueIdx.ix2 n l) = (code (b.toNat % 16) : EReal) * r := by
  rw [mulf_at, low_apply, hb, hr, weight_eq]

/-- The decoded weight of a high code. -/
theorem high_mul (w : Vec Ideal S512x128 .i8) (s : FVec Ideal S512x128 .bf16) (n : Fin 512) (l : Fin 128) (b : BitVec 8)
    (hb : w (ValueIdx.ix2 n l) = b) (r : EReal) (hr : s (ValueIdx.ix2 n l) = r * ((64 : ℝ) : EReal)) :
    mulf (high w) s (ValueIdx.ix2 n l) = (code (b.toNat / 16) : EReal) * r := by
  rw [mulf_at, high_apply, hb, hr, weight_eq]

/-- The chunks added up at an entry: the sum over the chunks. -/
theorem acc_apply (x : Vec Ideal S256x5120 .bf16) (w : Vec Ideal S512x2560 .i8) (sp : Fin 20 → FVec Ideal S512x128 .bf16)
    (j : S256x512.Idx) : ∀ (n : ℕ) (h : n < 20), acc x w sp n h j
      = ∑ c : Fin (n + 1), part (View.ld x (rX ⟨c.val, by omega⟩)) (View.ld w (rW ⟨c.val, by omega⟩)) (sp ⟨c.val, by omega⟩) j
  | 0, h => by rw [Fin.sum_univ_one]; rfl
  | n + 1, h => by
    rw [acc_succ, Fin.sum_univ_castSucc]
    show acc x w sp n _ j + part _ _ _ j = _
    rw [acc_apply x w sp j n]
    rfl

/-- Entry (i, n) of a block, from the activations with each chunk's even columns before its odd ones, the bytes, the
    scales and the global scale. -/
theorem total_apply (x : Vec Ideal S256x5120 .bf16) (w : Vec Ideal S512x2560 .i8) (s : Vec Ideal S512x320 .fp8e4m3)
    (g : EReal) (i : Fin 256) (n : Fin 512) :
    total x w (spreadAll s) g (ValueIdx.ix2 i n)
      = (∑ c : Fin 20,
          ((∑ l : Fin 128, x (ValueIdx.ix2 (n0 := 256) (n1 := 5120) i ⟨256 * c.val + l.val, by omega⟩)
              * ((code ((w (ValueIdx.ix2 (n0 := 512) (n1 := 2560) n ⟨128 * c.val + l.val, by omega⟩) : BitVec 8).toNat % 16) : EReal)
                * s (ValueIdx.ix2 (n0 := 512) (n1 := 320) n ⟨(128 * c.val + l.val) / 8, by omega⟩)))
            + ∑ l : Fin 128, x (ValueIdx.ix2 (n0 := 256) (n1 := 5120) i ⟨256 * c.val + (128 + l.val), by omega⟩)
              * ((code ((w (ValueIdx.ix2 (n0 := 512) (n1 := 2560) n ⟨128 * c.val + l.val, by omega⟩) : BitVec 8).toNat / 16) : EReal)
                * s (ValueIdx.ix2 (n0 := 512) (n1 := 320) n ⟨(128 * c.val + l.val) / 8, by omega⟩)))) * g := by
  show acc x w (spreadAll s) 19 _ (ValueIdx.ix2 i n) * g = _
  rw [acc_apply]
  refine congrArg (· * g) (Finset.sum_congr rfl fun c _ => ?_)
  have hc : c.val < 20 := c.isLt
  have ex : ∀ k : Fin 256, View.ld x (rX ⟨c.val, hc⟩) (ValueIdx.ix2 (n0 := 256) (n1 := 256) i k)
      = x (ValueIdx.ix2 (n0 := 256) (n1 := 5120) i ⟨256 * c.val + k.val, by omega⟩) := fun k => by
    refine congrArg x (funext fun a => ?_)
    match a with
    | ⟨0, _⟩ => exact Fin.ext (by show 0 + 1 * i.val = i.val; omega)
    | ⟨1, _⟩ => exact Fin.ext (by show 256 * c.val + 1 * k.val = 256 * c.val + k.val; omega)
  have ew : ∀ l : Fin 128, View.ld w (rW ⟨c.val, hc⟩) (ValueIdx.ix2 (n0 := 512) (n1 := 128) n l)
      = w (ValueIdx.ix2 (n0 := 512) (n1 := 2560) n ⟨128 * c.val + l.val, by omega⟩) := fun l => by
    refine congrArg w (funext fun a => ?_)
    match a with
    | ⟨0, _⟩ => exact Fin.ext (by show 0 + 1 * n.val = n.val; omega)
    | ⟨1, _⟩ => exact Fin.ext (by show 128 * c.val + 1 * l.val = 128 * c.val + l.val; omega)
  have es : ∀ l : Fin 128, spreadAll s ⟨c.val, hc⟩ (ValueIdx.ix2 n l)
      = s (ValueIdx.ix2 (n0 := 512) (n1 := 320) n ⟨(128 * c.val + l.val) / 8, by omega⟩) * ((64 : ℝ) : EReal) := fun l => by
    rw [spreadAll_apply]
    congr 3
    exact Fin.ext (by show 16 * c.val + l.val / 8 = (128 * c.val + l.val) / 8; omega)
  refine (part_apply (View.ld x (rX ⟨c.val, hc⟩)) (View.ld w (rW ⟨c.val, hc⟩)) (spreadAll s ⟨c.val, hc⟩) i n).trans ?_
  refine congrArg₂ (· + ·) (Finset.sum_congr rfl fun l _ => ?_) (Finset.sum_congr rfl fun l _ => ?_)
  · exact congrArg₂ (· * ·) (ex _) (low_mul _ _ n l _ (ew l) _ (es l))
  · exact congrArg₂ (· * ·) (ex _) (high_mul _ _ n l _ (ew l) _ (es l))

end Cert.Nib

end
-- ==== Proof.Sums.lean ====
/-
  THE EQUATION.  The kernel adds up 20 chunks of 128 byte columns, each chunk's even activations before its odd ones; the
  reference adds up the 2560 columns of the even activations, then those of the odd ones.  The sums are the same.
  `value` is the result both programs leave, as a function of the arguments.
-/
module

public import proofs.«01_k».proof.Proof.Decode

@[expose] public section

noncomputable section

namespace Cert.Nib

open Idealize.ShloMosaic

/-- Twenty chunks of 128 columns are the 2560 columns. -/
theorem sum_chunks (f : Fin 2560 → EReal) :
    ∑ c : Fin 20, ∑ l : Fin 128, f ⟨128 * c.val + l.val, by omega⟩ = ∑ k : Fin 2560, f k := by
  rw [← Fintype.sum_prod_type' fun (c : Fin 20) (l : Fin 128) => f ⟨128 * c.val + l.val, by omega⟩]
  refine Finset.sum_bij' (fun p _ => ⟨128 * p.1.val + p.2.val, by omega⟩)
    (fun k _ => (⟨k.val / 128, by omega⟩, ⟨k.val % 128, by omega⟩)) ?_ ?_ ?_ ?_ ?_
  · intro p _; exact Finset.mem_univ _
  · intro k _; exact Finset.mem_univ _
  · intro p _
    exact Prod.ext (Fin.ext (by show (128 * p.1.val + p.2.val) / 128 = p.1.val; omega))
      (Fin.ext (by show (128 * p.1.val + p.2.val) % 128 = p.2.val; omega))
  · intro k _; exact Fin.ext (by show 128 * (k.val / 128) + k.val % 128 = k.val; omega)
  · intro p _; rfl

/-- Chunk by chunk, or all even columns before all odd ones. -/
theorem sum_even_odd (f g : Fin 2560 → EReal) :
    ∑ c : Fin 20, ((∑ l : Fin 128, f ⟨128 * c.val + l.val, by omega⟩) + ∑ l : Fin 128, g ⟨128 * c.val + l.val, by omega⟩)
      = (∑ k : Fin 2560, f k) + ∑ k : Fin 2560, g k := by
  rw [Finset.sum_add_distrib, sum_chunks, sum_chunks]

/-- Entry (i, n) of the result: over the 2560 byte columns k, activation 2 k times the low code of byte (n, k) times the
    scale of the column's group of eight, plus activation 2 k + 1 times the high code times the same scale; times the
    global scale. -/
def value (x : (⟨3, ![256, 1, 5120]⟩ : Shape).Idx → EReal) (w : (⟨2, ![31232, 2560]⟩ : Shape).Idx → BitVec 8)
    (s : (⟨2, ![31232, 320]⟩ : Shape).Idx → EReal) (g : (⟨0, ![]⟩ : Shape).Idx → EReal) :
    (⟨2, ![256, 31232]⟩ : Shape).Idx → EReal := fun j =>
  ((∑ k : Fin 2560, x (ValueIdx.ix3 (n0 := 256) (n1 := 1) (n2 := 5120) (j 0) 0 ⟨2 * k.val, by omega⟩)
        * ((code ((w (ValueIdx.ix2 (n0 := 31232) (n1 := 2560) (j 1) k)).toNat % 16) : EReal)
          * s (ValueIdx.ix2 (n0 := 31232) (n1 := 320) (j 1) ⟨k.val / 8, by omega⟩)))
      + ∑ k : Fin 2560, x (ValueIdx.ix3 (n0 := 256) (n1 := 1) (n2 := 5120) (j 0) 0 ⟨2 * k.val + 1, by omega⟩)
        * ((code ((w (ValueIdx.ix2 (n0 := 31232) (n1 := 2560) (j 1) k)).toNat / 16) : EReal)
          * s (ValueIdx.ix2 (n0 := 31232) (n1 := 320) (j 1) ⟨k.val / 8, by omega⟩)))
    * g (fun a => Fin.elim0 a)

end Cert.Nib

end
-- ==== Proof.KernelArray.lean ====
/-
  THE KERNEL'S ARRAY.  Grid point t writes columns 512 t to 512 t + 511 of the result, from the same rows of the bytes
  and the scales; its activations are the argument's rows with each chunk of 256 split into its even and its odd columns.
-/
module

public import proofs.«01_k».proof.Proof.Blocks
public import proofs.«01_k».proof.Proof.Block
public import proofs.«01_k».proof.Proof.Sums
public import Idealize.ShloMosaic.Lib.Pipeline.ValueKit
public import Idealize.ShloMosaic.Lib.Claim

@[expose] public section

set_option maxRecDepth 16384

noncomputable section

namespace Cert.Nib

open Idealize.ShloMosaic Idealize.ShloMosaic.TcCoe Cert.KernelIdeal Cert.KernelIdeal.Gen

variable (m : (ℓ : Loc nD τ sig) → Buf (Elt Ideal) ℓ)

/-- Where each window's block lies at a grid point. -/
theorem place : ∀ t : Fin cfg0.N, win0_0.index t = ![0, 0] ∧ win0_1.index t = ![t.val, 0] ∧ win0_2.index t = ![t.val, 0]
    ∧ win0_3.index t = ![0, 0] ∧ win0_4.index t = ![0, t.val] :=
  (by decide +kernel : ∀ t : Fin grid0.N, win0_0.index t = ![0, 0] ∧ win0_1.index t = ![t.val, 0]
    ∧ win0_2.index t = ![t.val, 0] ∧ win0_3.index t = ![0, 0] ∧ win0_4.index t = ![0, t.val])

/-- The host's rearrangement of the activations, read at chunk c, half p, lane l. -/
theorem rearranged (x : S256x1x5120.Idx → EReal) (i : Fin 256) (c : Fin 20) (p : Fin 2) (l : Fin 128) :
    shapeCast S256x5120
      (transpose S256x20x2x128 [0, 1, 3, 2] (shapeCast S256x20x128x2 x shapeCasts_S256x1x5120_S256x20x128x2)
        transposes_S256x20x128x2_S256x20x2x128_0_1_3_2) shapeCasts_S256x20x2x128_S256x5120
      (ValueIdx.ix2 (n0 := 256) (n1 := 5120) i ⟨256 * c.val + (128 * p.val + l.val), by omega⟩)
      = x (ValueIdx.ix3 (n0 := 256) (n1 := 1) (n2 := 5120) i 0 ⟨2 * (128 * c.val + l.val) + p.val, by omega⟩) := by
  refine (shapeCast_apply _ _ _ (ValueIdx.ix4 (n0 := 256) (n1 := 20) (n2 := 2) (n3 := 128) i c p l) ?_).trans ?_
  · rw [Shape.rowMajor_val_four, Shape.rowMajor_val_two]
    show ((i.val * 20 + c.val) * 2 + p.val) * 128 + l.val = i.val * 5120 + (256 * c.val + (128 * p.val + l.val))
    omega
  refine (transpose_apply _ _ _ _ (ValueIdx.ix4 (n0 := 256) (n1 := 20) (n2 := 128) (n3 := 2) i c l p) ?_).trans ?_
  · intro b
    match b with
    | ⟨0, _⟩ => rfl
    | ⟨1, _⟩ => rfl
    | ⟨2, _⟩ => rfl
    | ⟨3, _⟩ => rfl
  refine shapeCast_apply _ _ _ _ ?_
  rw [Shape.rowMajor_val_four, Shape.rowMajor_val_three]
  show (i.val * 1 + 0) * 5120 + (2 * (128 * c.val + l.val) + p.val) = ((i.val * 20 + c.val) * 128 + l.val) * 2 + p.val
  omega

/-- The activations' window: chunk c's half p, lane l. -/
theorem act_apply (c : Dev nD) (t : Fin cfg0.N) (i : Fin 256) (q : Fin 20) (p : Fin 2) (l : Fin 128) (k : ℕ)
    (hk : k = 256 * q.val + (128 * p.val + l.val)) (h : k < 5120) :
    iblk m c 0 t (ValueIdx.ix2 (n0 := 256) (n1 := 5120) i ⟨k, h⟩)
      = m ((c : Thread nD τ).loc main_arg0)
          (ValueIdx.ix3 (n0 := 256) (n1 := 1) (n2 := 5120) i 0 ⟨2 * (128 * q.val + l.val) + p.val, by omega⟩) := by
  subst hk
  refine Eq.trans ?_ (rearranged (m ((c : Thread nD τ).loc main_arg0)) i q p l)
  blk_simp [iblk]
  entry_read
  blk_ext [place t]

/-- The bytes' window. -/
theorem bytes_apply (c : Dev nD) (t : Fin cfg0.N) (n : Fin 512) (k : Fin 2560) (h : 512 * t.val + n.val < 31232) :
    iblk m c 1 t (ValueIdx.ix2 (n0 := 512) (n1 := 2560) n k)
      = m ((c : Thread nD τ).loc main_arg1) (ValueIdx.ix2 (n0 := 31232) (n1 := 2560) ⟨512 * t.val + n.val, h⟩ k) := by
  blk_simp [iblk]
  entry_read
  blk_ext [place t]
  show t.val * 512 + n.val = 512 * t.val + n.val
  omega

/-- The scales' window. -/
theorem scales_apply (c : Dev nD) (t : Fin cfg0.N) (n : Fin 512) (k : Fin 320) (h : 512 * t.val + n.val < 31232) :
    iblk m c 2 t (ValueIdx.ix2 (n0 := 512) (n1 := 320) n k)
      = m ((c : Thread nD τ).loc main_arg2) (ValueIdx.ix2 (n0 := 31232) (n1 := 320) ⟨512 * t.val + n.val, h⟩ k) := by
  blk_simp [iblk]
  entry_read
  blk_ext [place t]
  show t.val * 512 + n.val = 512 * t.val + n.val
  omega

/-- The global scale's window. -/
theorem global_apply (c : Dev nD) (t : Fin cfg0.N) (j : S1x1.Idx) :
    iblk m c 3 t j = m ((c : Thread nD τ).loc main_arg3) (fun a => Fin.elim0 a) := by
  blk_simp [iblk]
  entry_read
  pointwise
  blk_ext [place t]

/-- Entry (i, n) of grid point t's block, from the arguments. -/
theorem blockOut_apply (c : Dev nD) (t : Fin cfg0.N) (i : Fin 256) (n : Fin 512) (h : 512 * t.val + n.val < 31232) :
    blockOut m c t (ValueIdx.ix2 i n)
      = value (m ((c : Thread nD τ).loc main_arg0)) (m ((c : Thread nD τ).loc main_arg1))
          (m ((c : Thread nD τ).loc main_arg2)) (m ((c : Thread nD τ).loc main_arg3))
          (ValueIdx.ix2 (n0 := 256) (n1 := 31232) i ⟨512 * t.val + n.val, h⟩) := by
  refine (total_apply (iblk m c 0 t) (iblk m c 1 t) (iblk m c 2 t) _ i n).trans ?_
  rw [global_apply]
  refine congrArg (· * _) (Eq.trans (Finset.sum_congr rfl fun q _ => ?_) (sum_even_odd _ _))
  refine congrArg₂ (· + ·) (Finset.sum_congr rfl fun l _ => ?_) (Finset.sum_congr rfl fun l _ => ?_)
  · rw [act_apply m c t i q 0 l _ (by show _ = 256 * q.val + (128 * 0 + l.val); omega), bytes_apply m c t n _ h,
      scales_apply m c t n _ h]
    rfl
  · rw [act_apply m c t i q 1 l _ (by show _ = 256 * q.val + (128 * 1 + l.val); omega), bytes_apply m c t n _ h,
      scales_apply m c t n _ h]
    rfl

/-- The kernel's result array. -/
theorem array_eq (c : Dev nD) :
    (dats m 0 c).arrAt 4 cfg0.N
      = value (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t hf y => ?_
  blk_simp
  rw [after0_4]
  obtain ⟨i, n, rfl⟩ : ∃ (i : Fin 256) (n : Fin 512), (y : S256x512.Idx) = ValueIdx.ix2 i n := ⟨_, _, ValueIdx.eq_ix2 y⟩
  have ht : t.val < 61 := t.isLt
  have h : 512 * t.val + n.val < 31232 := by omega
  refine (blockOut_apply m c t i n h).trans (congrArg _ ?_)
  blk_ext [place t]
  show 512 * t.val + n.val = t.val * 512 + n.val
  omega

end Cert.Nib

end
-- ==== Proof.RefDecode.lean ====
/-
  THE REFERENCE'S DECODING.  The reference reads a code bit by bit: a tree of selections gives the magnitude and bit 3
  the sign.  Here the tree is one function of the word (`magnitude`, `signed`), and it is the value of the code.
-/
module

public import proofs.«01_k».proof.Proof.Decode
public import proofs.«01_k».proof.Proof.Gen.ReferenceIdeal.Frame
public import Idealize.ShloMosaic.Lib.Pointwise
public import Idealize.ShloMosaic.Lib.Pipeline.Value

@[expose] public section

set_option maxRecDepth 16384

noncomputable section

namespace Cert.Nib.Ref

open Idealize.ShloMosaic Cert.ReferenceIdeal Cert.ReferenceIdeal.Gen

/-- Whether a word shares a bit with a mask. -/
def bit (v k : BitVec 32) : BitVec 1 := IntOp.cmpi .ne (IntOp.andi v k) 0#32

/-- The magnitude a word's three low bits select. -/
def magnitude (v : BitVec 32) : EReal :=
  Scalar.select (bit v 4#32)
    (Scalar.select (bit v 2#32)
      (Scalar.select (bit v 1#32) (Ideal.ofBits .bf16 0x40C0#16) (Ideal.ofBits .bf16 0x4080#16))
      (Scalar.select (bit v 1#32) (Ideal.ofBits .bf16 0x4040#16) (Ideal.ofBits .bf16 0x4000#16)))
    (Scalar.select (bit v 2#32)
      (Scalar.select (bit v 1#32) (Ideal.ofBits .bf16 0x3FC0#16) (Ideal.ofBits .bf16 0x3F80#16))
      (Scalar.select (bit v 1#32) (Ideal.ofBits .bf16 0x3F00#16) (Ideal.ofBits .bf16 0x0000#16)))

/-- The number a word's four low bits stand for. -/
def signed (v : BitVec 32) : EReal :=
  Scalar.select (bit v 8#32) (Ideal.ofBits .bf16 0x0000#16 - magnitude v) (magnitude v)

theorem ofBits_6 : Ideal.ofBits .bf16 0x40C0#16 = ((6 : ℝ) : EReal) := by
  simp [Ideal.ofBits, Ideal.ieee, -EReal.coe_mul]; norm_num
theorem ofBits_4 : Ideal.ofBits .bf16 0x4080#16 = ((4 : ℝ) : EReal) := by
  simp [Ideal.ofBits, Ideal.ieee, -EReal.coe_mul]; norm_num
theorem ofBits_3 : Ideal.ofBits .bf16 0x4040#16 = ((3 : ℝ) : EReal) := by
  simp [Ideal.ofBits, Ideal.ieee, -EReal.coe_mul]; norm_num
theorem ofBits_2 : Ideal.ofBits .bf16 0x4000#16 = ((2 : ℝ) : EReal) := by
  simp [Ideal.ofBits, Ideal.ieee, -EReal.coe_mul]; norm_num
theorem ofBits_32 : Ideal.ofBits .bf16 0x3FC0#16 = ((3 / 2 : ℝ) : EReal) := by
  simp [Ideal.ofBits, Ideal.ieee, -EReal.coe_mul]; norm_num
theorem ofBits_1 : Ideal.ofBits .bf16 0x3F80#16 = ((1 : ℝ) : EReal) := by
  simp [Ideal.ofBits, Ideal.ieee, -EReal.coe_mul]; norm_num
theorem ofBits_12 : Ideal.ofBits .bf16 0x3F00#16 = ((1 / 2 : ℝ) : EReal) := by
  simp [Ideal.ofBits, Ideal.ieee, -EReal.coe_mul]; norm_num
theorem ofBits_0 : Ideal.ofBits .bf16 0x0000#16 = ((0 : ℝ) : EReal) := by
  simp [Ideal.ofBits, Ideal.ieee, -EReal.coe_mul]

/-- The tree's value is the code's. -/
theorem signed_code : ∀ k : Fin 16, signed (BitVec.ofNat 32 k.val) = (code k.val : EReal) := by
  intro k
  unfold signed magnitude
  rw [ofBits_6, ofBits_4, ofBits_3, ofBits_2, ofBits_32, ofBits_1, ofBits_12, ofBits_0]
  fin_cases k <;> simp [bit, Scalar.select, IntOp.cmpi, IntOp.andi, code, ← EReal.coe_sub] <;> norm_num

/-- The magnitudes of the low codes. -/
theorem pay6_at (w : Vec Ideal S31232x2560 .i8) (j : S31232x2560.Idx) : k0_pay6 w j = magnitude (k0_pay4 w j) := rfl
theorem pay5_at (w : Vec Ideal S31232x2560 .i8) (j : S31232x2560.Idx) : k0_pay5 w j = bit (k0_pay4 w j) 8#32 := rfl
theorem pay11_at (v : IVec S31232x2560 32) (j : S31232x2560.Idx) : k0_pay11 (F := Ideal) v j = magnitude (k0_pay9 v j) := rfl
theorem pay10_at (v : IVec S31232x2560 32) (j : S31232x2560.Idx) : k0_pay10 v j = bit (k0_pay9 v j) 8#32 := rfl
theorem pay12_at (v : IVec S31232x2560 32) (j : S31232x2560.Idx) :
    k0_pay12 (F := Ideal) v j = Ideal.ofBits .bf16 0x0000#16 - magnitude (k0_pay9 v j) := rfl

/-- The low code as a word. -/
theorem low_word (w : Vec Ideal S31232x2560 .i8) (j : S31232x2560.Idx) :
    k0_pay4 w j = BitVec.ofNat 32 ((w j : BitVec 8).toNat % 16) := by
  have key : ∀ b : BitVec 8, IntOp.andi (b.setWidth 32) 15#32 = BitVec.ofNat 32 (b.toNat % 16) := by decide
  exact key (w j)

/-- The high code as a word. -/
theorem high_word (w : Vec Ideal S31232x2560 .i8) (j : S31232x2560.Idx) :
    k0_pay9 (k0_pay2 w) j = BitVec.ofNat 32 ((w j : BitVec 8).toNat / 16) := by
  have key : ∀ b : BitVec 8, IntOp.shrsi .vector (b.setWidth 32) 4#32 = BitVec.ofNat 32 (b.toNat / 16) := by decide
  exact key (w j)

/-- A selection of vectors at an entry. -/
theorem select_at {S : Shape} (c : IVec S 1) (a b : FVec Ideal S .bf16) (j : S.Idx) :
    select c a b j = Scalar.select (c j) (a j) (b j) := rfl
/-- A difference of vectors at an entry. -/
theorem subf_at {S : Shape} (a b : FVec Ideal S .bf16) (j : S.Idx) : subf a b j = a j - b j := rfl

/-- The low codes' values. -/
theorem low_value (w : Vec Ideal S31232x2560 .i8) (j : S31232x2560.Idx) :
    select (k0_pay5 w) (subf (k0_pay7 (F := Ideal)) (k0_pay6 w)) (k0_pay6 w) j
      = (code ((w j : BitVec 8).toNat % 16) : EReal) := by
  rw [select_at, subf_at, pay5_at, pay6_at, low_word]
  exact signed_code ⟨_, Nat.mod_lt _ (by decide)⟩

/-- The high codes' values. -/
theorem high_value (w : Vec Ideal S31232x2560 .i8) (j : S31232x2560.Idx) :
    select (k0_pay10 (k0_pay2 w)) (k0_pay12 (F := Ideal) (k0_pay2 w)) (k0_pay11 (F := Ideal) (k0_pay2 w)) j
      = (code ((w j : BitVec 8).toNat / 16) : EReal) := by
  have hlt : (w j : BitVec 8).toNat < 256 := (w j : BitVec 8).isLt
  rw [select_at, pay12_at, pay10_at, pay11_at, high_word]
  exact signed_code ⟨_, by omega⟩

end Cert.Nib.Ref

end
-- ==== Proof.RefBlock.lean ====
/-
  WHAT THE REFERENCE COMPUTES.  Entry (i, n) of its result is the sum over the 2560 byte columns of the even activation
  times the low code times the scale of the column's group of eight, plus the same of the odd activation and the high
  code, times the global scale (`out_apply`).
-/
module

public import proofs.«01_k».proof.Proof.RefDecode

@[expose] public section

set_option maxRecDepth 16384

noncomputable section

namespace Cert.Nib.Ref

open Idealize.ShloMosaic Cert.ReferenceIdeal Cert.ReferenceIdeal.Gen

/-- A product over the 2560 byte columns as a sum. -/
theorem matmul_at (x : FVec Ideal S256x2560 .bf16) (y : FVec Ideal S31232x2560 .bf16) (i : Fin 256) (n : Fin 31232) :
    matmul dot_S256x2560_S31232x2560_S256x31232_1_1_0_0_n_n none x y (constant S256x31232 .f32 0x00000000#32) (ValueIdx.ix2 i n)
      = ∑ k : Fin 2560, x (ValueIdx.ix2 i k) * y (ValueIdx.ix2 n k) := by
  pointwise
  rfl

/-- A product of vectors at an entry. -/
theorem mulf_at {S : Shape} {φ : FTy} (a b : FVec Ideal S φ) (j : S.Idx) : mulf a b j = a j * b j := rfl
/-- A sum of vectors at an entry. -/
theorem addf_at {S : Shape} {φ : FTy} (a b : FVec Ideal S φ) (j : S.Idx) : addf a b j = a j + b j := rfl

/-- The codes' values times their groups' scales: eight columns share a scale. -/
def dequant (q : FVec Ideal S31232x2560 .bf16) (s : FVec Ideal S31232x320 .bf16) : FVec Ideal S31232x2560 .bf16 :=
  shapeCast S31232x2560
    (mulf (shapeCast S31232x320x8 q shapeCasts_S31232x2560_S31232x320x8)
      (broadcastTo S31232x320x8 (shapeCast S31232x320x1 s shapeCasts_S31232x320_S31232x320x1) broadcasts_S31232x320x1_S31232x320x8))
    shapeCasts_S31232x320x8_S31232x2560

theorem dequant_apply (q : FVec Ideal S31232x2560 .bf16) (s : FVec Ideal S31232x320 .bf16) (n : Fin 31232) (k : Fin 2560) :
    dequant q s (ValueIdx.ix2 n k)
      = q (ValueIdx.ix2 n k) * s (ValueIdx.ix2 (n0 := 31232) (n1 := 320) n ⟨k.val / 8, by omega⟩) := by
  unfold dequant
  rw [shapeCast_apply _ _ _ (ValueIdx.ix3 (n0 := 31232) (n1 := 320) (n2 := 8) n ⟨k.val / 8, by omega⟩ ⟨k.val % 8, by omega⟩)
    (by rw [Shape.rowMajor_val_three, Shape.rowMajor_val_two]
        show (n.val * 320 + k.val / 8) * 8 + k.val % 8 = n.val * 2560 + k.val
        omega), mulf_at]
  congr 1
  · refine shapeCast_apply _ _ _ _ ?_
    rw [Shape.rowMajor_val_three, Shape.rowMajor_val_two]
    show n.val * 2560 + k.val = (n.val * 320 + k.val / 8) * 8 + k.val % 8
    omega
  · refine (broadcastTo_apply _ _ _ (ValueIdx.ix3 (n0 := 31232) (n1 := 320) (n2 := 1) n ⟨k.val / 8, by omega⟩ 0) ?_).trans ?_
    · intro a
      match a with
      | ⟨0, _⟩ => rfl
      | ⟨1, _⟩ => rfl
      | ⟨2, _⟩ => rfl
    · refine shapeCast_apply _ _ _ _ ?_
      rw [Shape.rowMajor_val_three, Shape.rowMajor_val_two]
      show n.val * 320 + k.val / 8 = (n.val * 320 + k.val / 8) * 1 + 0
      omega

/-- The two products over decoded weights, added and scaled. -/
def linear (xe xo : Vec Ideal S256x2560 .bf16) (wl wh : FVec Ideal S31232x2560 .bf16) (g : Vec Ideal S1x1 .f32) :
    FVec Ideal S256x31232 .bf16 :=
  truncf .bf16
    (mulf
      (addf
        (matmul dot_S256x2560_S31232x2560_S256x31232_1_1_0_0_n_n none
          (shapeCast S256x2560 xe shapeCasts_S256x2560_S256x2560 : FVec Ideal S256x2560 .bf16) wl (constant S256x31232 .f32 0x00000000#32))
        (matmul dot_S256x2560_S31232x2560_S256x31232_1_1_0_0_n_n none
          (shapeCast S256x2560 xo shapeCasts_S256x2560_S256x2560 : FVec Ideal S256x2560 .bf16) wh (constant S256x31232 .f32 0x00000000#32)))
      (broadcastTo S256x31232 (shapeCast S1x1 g shapeCasts_S1x1_S1x1 : FVec Ideal S1x1 .f32) broadcasts_S1x1_S256x31232))
    bitsLt_bf16_f32

/-- The narrowing changes nothing at the ideal values. -/
theorem truncf_at {S : Shape} (a : FVec Ideal S .f32) (h : FTy.bits .bf16 < FTy.bits .f32) (j : S.Idx) :
    truncf .bf16 a h j = a j := rfl

theorem linear_apply (xe xo : Vec Ideal S256x2560 .bf16) (wl wh : FVec Ideal S31232x2560 .bf16) (g : Vec Ideal S1x1 .f32)
    (i : Fin 256) (n : Fin 31232) :
    linear xe xo wl wh g (ValueIdx.ix2 i n)
      = ((∑ k : Fin 2560, xe (ValueIdx.ix2 i k) * wl (ValueIdx.ix2 n k))
          + ∑ k : Fin 2560, xo (ValueIdx.ix2 i k) * wh (ValueIdx.ix2 n k)) * g (ValueIdx.ix2 (n0 := 1) (n1 := 1) 0 0) := by
  unfold linear
  rw [shapeCast_self, shapeCast_self, shapeCast_self, truncf_at, mulf_at, addf_at, matmul_at, matmul_at]
  refine congrArg (_ * ·) (broadcastTo_apply _ _ _ _ ?_)
  intro a
  match a with
  | ⟨0, _⟩ => rfl
  | ⟨1, _⟩ => rfl

/-- The body's payload is the two products over the dequantized codes. -/
theorem pay1_eq (s : FVec Ideal S31232x320 .bf16) (wl : FVec Ideal S31232x2560 .bf16) (c : IVec S31232x2560 1)
    (a b : FVec Ideal S31232x2560 .bf16) (xe xo : Vec Ideal S256x2560 .bf16) (g : Vec Ideal S1x1 .f32) :
    k0_pay1 s wl c a b xe xo g = linear xe xo wl (dequant (select c b a) s) g := rfl

theorem pay8_eq (s : FVec Ideal S31232x320 .bf16) (c : IVec S31232x2560 1) (a z : FVec Ideal S31232x2560 .bf16) :
    k0_pay8 s c a z = dequant (select c (subf z a) a) s := rfl

/-- The scales, widened. -/
theorem pay3_at (s : Vec Ideal S31232x320 .fp8e4m3) (j : S31232x320.Idx) : k0_pay3 s j = s j := rfl

/-- What the reference's body leaves, with its loads read. -/
theorem out_eq (xe xo : Vec Ideal S256x2560 .bf16) (w : Vec Ideal S31232x2560 .i8) (s : Vec Ideal S31232x320 .fp8e4m3)
    (g : Vec Ideal S1x1 .f32) :
    out0_5 xe xo w s g
      = linear xe xo
          (dequant (select (k0_pay5 w) (subf (k0_pay7 (F := Ideal)) (k0_pay6 w)) (k0_pay6 w)) (k0_pay3 s))
          (dequant (select (k0_pay10 (k0_pay2 w)) (k0_pay12 (F := Ideal) (k0_pay2 w)) (k0_pay11 (F := Ideal) (k0_pay2 w))) (k0_pay3 s)) g := by
  unfold_out out0_5
  rw [View.canon_unit_zero (S := S256x31232) (by decide), View.ld_unit_zero (S := S31232x2560) (by decide),
    View.ld_unit_zero (S := S31232x320) (by decide), View.ld_unit_zero (S := S256x2560) (by decide),
    View.ld_unit_zero (S := S256x2560) (by decide), View.ld_unit_zero (S := S1x1) (by decide), pay1_eq, pay8_eq]

/-- Entry (i, n) of the reference's result. -/
theorem out_apply (xe xo : Vec Ideal S256x2560 .bf16) (w : Vec Ideal S31232x2560 .i8) (s : Vec Ideal S31232x320 .fp8e4m3)
    (g : Vec Ideal S1x1 .f32) (i : Fin 256) (n : Fin 31232) :
    out0_5 xe xo w s g (ValueIdx.ix2 i n)
      = ((∑ k : Fin 2560, xe (ValueIdx.ix2 i k)
            * ((code ((w (ValueIdx.ix2 n k) : BitVec 8).toNat % 16) : EReal) * s (ValueIdx.ix2 (n0 := 31232) (n1 := 320) n ⟨k.val / 8, by omega⟩)))
          + ∑ k : Fin 2560, xo (ValueIdx.ix2 i k)
            * ((code ((w (ValueIdx.ix2 n k) : BitVec 8).toNat / 16) : EReal) * s (ValueIdx.ix2 (n0 := 31232) (n1 := 320) n ⟨k.val / 8, by omega⟩)))
        * g (ValueIdx.ix2 (n0 := 1) (n1 := 1) 0 0) := by
  rw [out_eq, linear_apply]
  refine congrArg (· * _) (congrArg₂ (· + ·) (Finset.sum_congr rfl fun k _ => ?_) (Finset.sum_congr rfl fun k _ => ?_))
  · rw [dequant_apply, low_value, pay3_at]
  · rw [dequant_apply, high_value, pay3_at]

end Cert.Nib.Ref

end
-- ==== Proof.RefArray.lean ====
/-
  THE REFERENCE'S ARRAY.  Its one grid point writes the whole result; its windows hold the even and the odd activations
  (every second column of an argument's row), the bytes, the scales and the global scale.
-/
module

public import proofs.«01_k».proof.Proof.RefBlock
public import proofs.«01_k».proof.Proof.Sums
public import proofs.«01_k».proof.Proof.Gen.ReferenceIdeal.Value
public import Idealize.ShloMosaic.Lib.Pipeline.ValueKit
public import Idealize.ShloMosaic.Lib.Claim

@[expose] public section

set_option maxRecDepth 16384

noncomputable section

namespace Cert.Nib.Ref

open Idealize.ShloMosaic Idealize.ShloMosaic.TcCoe Cert.ReferenceIdeal Cert.ReferenceIdeal.Gen

variable (m : (ℓ : Loc nD τ sig) → Buf (Elt Ideal) ℓ)

/-- Every window's one block is at the origin. -/
theorem origin : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0])

/-- The even activations' window. -/
theorem even_apply (c : Dev nD) (t : Fin cfg0.N) (i : Fin 256) (k : Fin 2560) :
    iblk m c 0 t (ValueIdx.ix2 (n0 := 256) (n1 := 2560) i k)
      = m ((c : Thread nD τ).loc main_arg0) (ValueIdx.ix3 (n0 := 256) (n1 := 1) (n2 := 5120) i 0 ⟨2 * k.val, by omega⟩) := by
  blk_simp [iblk]
  entry_read
  pointwise
  blk_ext [origin t]

/-- The odd activations' window. -/
theorem odd_apply (c : Dev nD) (t : Fin cfg0.N) (i : Fin 256) (k : Fin 2560) :
    iblk m c 1 t (ValueIdx.ix2 (n0 := 256) (n1 := 2560) i k)
      = m ((c : Thread nD τ).loc main_arg0) (ValueIdx.ix3 (n0 := 256) (n1 := 1) (n2 := 5120) i 0 ⟨2 * k.val + 1, by omega⟩) := by
  blk_simp [iblk]
  entry_read
  pointwise
  blk_ext [origin t]
  exact Nat.add_comm 1 (2 * k.val)

/-- The bytes' window. -/
theorem bytes_apply (c : Dev nD) (t : Fin cfg0.N) (n : Fin 31232) (k : Fin 2560) :
    iblk m c 2 t (ValueIdx.ix2 (n0 := 31232) (n1 := 2560) n k)
      = m ((c : Thread nD τ).loc main_arg1) (ValueIdx.ix2 (n0 := 31232) (n1 := 2560) n k) := by
  blk_simp [iblk]
  entry_read
  blk_ext [origin t]

/-- The scales' window. -/
theorem scales_apply (c : Dev nD) (t : Fin cfg0.N) (n : Fin 31232) (k : Fin 320) :
    iblk m c 3 t (ValueIdx.ix2 (n0 := 31232) (n1 := 320) n k)
      = m ((c : Thread nD τ).loc main_arg2) (ValueIdx.ix2 (n0 := 31232) (n1 := 320) n k) := by
  blk_simp [iblk]
  entry_read
  blk_ext [origin t]

/-- The global scale's window. -/
theorem global_apply (c : Dev nD) (t : Fin cfg0.N) (j : S1x1.Idx) :
    iblk m c 4 t j = m ((c : Thread nD τ).loc main_arg3) (fun a => Fin.elim0 a) := by
  blk_simp [iblk]
  entry_read
  pointwise
  blk_ext [origin t]

/-- The reference's result array. -/
theorem array_eq (c : Dev nD) :
    (dats m 0 c).arrAt 5 cfg0.N
      = value (m ((c : Thread nD τ).loc main_arg0)) (m ((c : Thread nD τ).loc main_arg1))
          (m ((c : Thread nD τ).loc main_arg2)) (m ((c : Thread nD τ).loc main_arg3)) := by
  refine (dats m 0 c).arrAt_eq_of_covers 5 _ (by decide +kernel) fun t hf y => ?_
  blk_simp
  rw [after0_5]
  have ey : (win0_5.blk t).view.emb y = (y : S256x31232.Idx) := by
    blk_ext [origin t]
  rw [ey]
  obtain ⟨i, n, rfl⟩ : ∃ (i : Fin 256) (n : Fin 31232), (y : S256x31232.Idx) = ValueIdx.ix2 i n := ⟨_, _, ValueIdx.eq_ix2 y⟩
  refine (out_apply _ _ _ _ _ i n).trans ?_
  rw [global_apply]
  refine congrArg (· * _) (congrArg₂ (· + ·) (Finset.sum_congr rfl fun k _ => ?_) (Finset.sum_congr rfl fun k _ => ?_))
  · rw [even_apply, bytes_apply, scales_apply]
  · rw [odd_apply, bytes_apply, scales_apply]

end Cert.Nib.Ref

end
-- ==== Proof.Assembly.lean ====
/-
  THE VALUE CLAIM.  Both programs' result arrays are `value` of the same arguments.
-/
module

public import proofs.«01_k».proof.Defs
public import proofs.«01_k».proof.Proof.KernelArray
public import proofs.«01_k».proof.Proof.RefArray

@[expose] public section

noncomputable section

namespace Cert.Nib

open Idealize.ShloMosaic Idealize.ShloMosaic.TcCoe Idealize.SL.Sem

/-- The kernel and the reference leave the same array. -/
theorem algebraic : Cert.algebraic_KernelIdeal_ReferenceIdeal := by
  intro m g m' g' _ hagree
  refine ⟨fun c => value (m (c.tc.loc Cert.KernelIdeal.main_arg0)) (m (c.tc.loc Cert.KernelIdeal.main_arg1))
    (m (c.tc.loc Cert.KernelIdeal.main_arg2)) (m (c.tc.loc Cert.KernelIdeal.main_arg3)), ?_, ?_⟩
  · exact (θ_run Cert.KernelIdeal.defs _ _).mono (fun _ h c => ⟨(h c).1.trans (array_eq m c), (h c).2⟩)
      (Cert.KernelIdeal.Value.run_blocks (F := Ideal) m g)
  · refine (θ_run Cert.ReferenceIdeal.defs _ _).mono (fun _ h c => ⟨(h c).1.trans ((Ref.array_eq m' c).trans ?_), (h c).2⟩)
      (Cert.ReferenceIdeal.Value.run_blocks (F := Ideal) m' g')
    obtain ⟨h0, h1, h2, h3⟩ := hagree c
    rw [h0, h1, h2, h3]

end Cert.Nib

end
-- ==== Proof.lean ====
/-
  THE CERTIFICATE.  The frames of the kernel as printed, of its idealization and of the reference's; the idealization
  rewrites nothing; and the idealized kernel leaves the array that the reference leaves.
-/
module

public import proofs.«01_k».proof.Defs
public import proofs.«01_k».proof.Proof.KernelFrame
public import proofs.«01_k».proof.Proof.Assembly
public import proofs.«01_k».proof.Proof.Gen.ReferenceIdeal.Value

@[expose] public section

/-- All five claims: the three frames, the idealization kept as it was, and the value. -/
theorem Cert.Proof.claim : Cert.Claim :=
  ⟨Cert.Kernel.Gen.facts, Cert.KernelIdeal.Gen.facts, Cert.ReferenceIdeal.Gen.facts,
   fun m ρ _ => Cert.Kernel.Gen.frame m ρ, fun m ρ _ => Cert.KernelIdeal.Gen.frame m ρ,
   fun m ρ _ => Cert.ReferenceIdeal.Gen.frame m ρ, trivial, Cert.Nib.algebraic⟩
